-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated_scores [hPre_separated_scores : Cert.Pre_separated_scores.Facts] (m : (ℓ : Loc Cert.KernelIdeal.nD Cert.KernelIdeal.τ Cert.KernelIdeal.sig) → Buf (Elt Ideal) ℓ) : Prop :=
  ∀ c : Dev Cert.KernelIdeal.nD,
    (Cert.Pre_separated_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated_scores [hPre_separated_scores : Cert.Pre_separated_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_KernelIdeal_pre_separated_scores [hKernelIdeal : Cert.KernelIdeal.Facts] [hPre_separated_scores : Cert.Pre_separated_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def quiescent_ReferenceIdeal_pre_separated_scores [hReferenceIdeal : Cert.ReferenceIdeal.Facts] [hPre_separated_scores : Cert.Pre_separated_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def preserves_Kernel_KernelIdeal : Prop :=
  True

def algebraic_KernelIdeal_ReferenceIdeal_pre_separated_scores [hKernelIdeal : Cert.KernelIdeal.Facts] [hReferenceIdeal : Cert.ReferenceIdeal.Facts] [hPre_separated_scores : Cert.Pre_separated_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_separated_scores : Cert.Pre_separated_scores.Facts),
    quiescent_Kernel (hKernel := hKernel)
    ∧ quiescent_KernelIdeal (hKernelIdeal := hKernelIdeal)
    ∧ quiescent_KernelIdeal_pre_separated_scores (hKernelIdeal := hKernelIdeal) (hPre_separated_scores := hPre_separated_scores)
    ∧ quiescent_ReferenceIdeal (hReferenceIdeal := hReferenceIdeal)
    ∧ quiescent_ReferenceIdeal_pre_separated_scores (hReferenceIdeal := hReferenceIdeal) (hPre_separated_scores := hPre_separated_scores)
    ∧ preserves_Kernel_KernelIdeal
    ∧ algebraic_KernelIdeal_ReferenceIdeal_pre_separated_scores (hKernelIdeal := hKernelIdeal) (hReferenceIdeal := hReferenceIdeal) (hPre_separated_scores := hPre_separated_scores)
-- ==== Pre_separated_scores.lean ====
abbrev S16x1024x1024 : Shape := ⟨3, ![16, 1024, 1024]⟩
abbrev S16x1024x512 : Shape := ⟨3, ![16, 1024, 512]⟩
abbrev S1024x256 : Shape := ⟨2, ![1024, 256]⟩
abbrev S256 : Shape := ⟨1, ![256]⟩
abbrev S256x32 : Shape := ⟨2, ![256, 32]⟩
abbrev S32 : Shape := ⟨1, ![32]⟩
abbrev S32x1 : Shape := ⟨2, ![32, 1]⟩
abbrev S1 : Shape := ⟨1, ![1]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1536x512 : Shape := ⟨2, ![1536, 512]⟩
abbrev S512x1536 : Shape := ⟨2, ![512, 1536]⟩
abbrev S1536 : Shape := ⟨1, ![1536]⟩
abbrev S512x256 : Shape := ⟨2, ![512, 256]⟩
abbrev S16x1024x256 : Shape := ⟨3, ![16, 1024, 256]⟩
abbrev S1x1x256 : Shape := ⟨3, ![1, 1, 256]⟩
abbrev S_ : Shape := ⟨0, ![]⟩
abbrev S16x1024x32 : Shape := ⟨3, ![16, 1024, 32]⟩
abbrev S1x1x32 : Shape := ⟨3, ![1, 1, 32]⟩
abbrev S16x1024x1 : Shape := ⟨3, ![16, 1024, 1]⟩
abbrev S1x1x1 : Shape := ⟨3, ![1, 1, 1]⟩
abbrev S16x1024 : Shape := ⟨2, ![16, 1024]⟩
abbrev S16x103 : Shape := ⟨2, ![16, 103]⟩
abbrev S16 : Shape := ⟨1, ![16]⟩
abbrev S16x1 : Shape := ⟨2, ![16, 1]⟩

class Facts : Prop where
  bcast_S256_S1x1x256_2 : S256.BroadcastsInDim S1x1x256 (![2] : Fin 1 → Fin S1x1x256.rank)
  bcast_S1x1x256_S16x1024x256_0_1_2 : S1x1x256.BroadcastsInDim S16x1024x256 (![0, 1, 2] : Fin 3 → Fin S16x1024x256.rank)
  bcast_S_S16x1024x256 : S_.BroadcastsInDim S16x1024x256 (![] : Fin 0 → Fin S16x1024x256.rank)
  bcast_S32_S1x1x32_2 : S32.BroadcastsInDim S1x1x32 (![2] : Fin 1 → Fin S1x1x32.rank)
  bcast_S1x1x32_S16x1024x32_0_1_2 : S1x1x32.BroadcastsInDim S16x1024x32 (![0, 1, 2] : Fin 3 → Fin S16x1024x32.rank)
  bcast_S_S16x1024x32 : S_.BroadcastsInDim S16x1024x32 (![] : Fin 0 → Fin S16x1024x32.rank)
  bcast_S1_S1x1x1_2 : S1.BroadcastsInDim S1x1x1 (![2] : Fin 1 → Fin S1x1x1.rank)
  bcast_S1x1x1_S16x1024x1_0_1_2 : S1x1x1.BroadcastsInDim S16x1024x1 (![0, 1, 2] : Fin 3 → Fin S16x1024x1.rank)
  shapeCasts_S16x1024x1_S16x1024 : S16x1024x1.ShapeCasts S16x1024
  sliceFits_S16x1024_S16x103 : S16x1024.Slices (fun _ => 0) S16x103
  reducesTo_S16x1024_S16_d1 : S16x1024.ReducesTo [1] S16
  h_S_ : 0 < S_.numel
  slices_S16x103_S16x1_0_101 : S16x103.Slices ![0, 101] S16x1
  shapeCasts_S16x1_S16 : S16x1.ShapeCasts S16
  slices_S16x103_S16x1_0_102 : S16x103.Slices ![0, 102] S16x1
  bcast_S_S16 : S_.BroadcastsInDim S16 (![] : Fin 0 → Fin S16.rank)
  reducesTo_S16x1024x1024_S_d0_1_2 : S16x1024x1024.ReducesTo [0, 1, 2] S_
  reducesTo_S16x1024x512_S_d0_1_2 : S16x1024x512.ReducesTo [0, 1, 2] S_
  reducesTo_S1024x512_S_d0_1 : S1024x512.ReducesTo [0, 1] S_
  reducesTo_S512_S_d0 : S512.ReducesTo [0] S_
  reducesTo_S512x512_S_d0_1 : S512x512.ReducesTo [0, 1] S_
  reducesTo_S512x1_S_d0_1 : S512x1.ReducesTo [0, 1] S_
  reducesTo_S1_S_d0 : S1.ReducesTo [0] S_
  reducesTo_S1536x512_S_d0_1 : S1536x512.ReducesTo [0, 1] S_
  reducesTo_S512x1536_S_d0_1 : S512x1536.ReducesTo [0, 1] S_
  reducesTo_S1536_S_d0 : S1536.ReducesTo [0] S_
  reducesTo_S512x256_S_d0_1 : S512x256.ReducesTo [0, 1] S_
  dot_S16x1024x1024_S1024x256_S16x1024x256_2_0_01_1_n_n_wf : DotDims.WF S16x1024x1024 S1024x256 S16x1024x256 [2] [0] [0, 1] [1] [] []
  dot_S16x1024x256_S256x32_S16x1024x32_2_0_01_1_n_n_wf : DotDims.WF S16x1024x256 S256x32 S16x1024x32 [2] [0] [0, 1] [1] [] []
  dot_S16x1024x32_S32x1_S16x1024x1_2_0_01_1_n_n_wf : DotDims.WF S16x1024x32 S32x1 S16x1024x1 [2] [0] [0, 1] [1] [] []

variable [Facts]

def dot_S16x1024x1024_S1024x256_S16x1024x256_2_0_01_1_n_n : DotDims S16x1024x1024 S1024x256 S16x1024x256 where
  lhsContracting := [2]
  rhsContracting := [0]
  lhsNonContracting := [0, 1]
  rhsNonContracting := [1]
  lhsBatch := []
  rhsBatch := []
  wf := dot_S16x1024x1024_S1024x256_S16x1024x256_2_0_01_1_n_n_wf
def dot_S16x1024x256_S256x32_S16x1024x32_2_0_01_1_n_n : DotDims S16x1024x256 S256x32 S16x1024x32 where
  lhsContracting := [2]
  rhsContracting := [0]
  lhsNonContracting := [0, 1]
  rhsNonContracting := [1]
  lhsBatch := []
  rhsBatch := []
  wf := dot_S16x1024x256_S256x32_S16x1024x32_2_0_01_1_n_n_wf
def dot_S16x1024x32_S32x1_S16x1024x1_2_0_01_1_n_n : DotDims S16x1024x32 S32x1 S16x1024x1 where
  lhsContracting := [2]
  rhsContracting := [0]
  lhsNonContracting := [0, 1]
  rhsNonContracting := [1]
  lhsBatch := []
  rhsBatch := []
  wf := dot_S16x1024x32_S32x1_S16x1024x1_2_0_01_1_n_n_wf
def fn_relu {F : FTy → Type} [FloatOps F] (arg0 : FVec F S16x1024x256 .f32) : FVec F S16x1024x256 .f32 :=
  let cst : FVec F S_ .f32 := constant S_ .f32 0x00000000#32
  let v0 : FVec F S16x1024x256 .f32 := broadcastInDim S16x1024x256 ![] bcast_S_S16x1024x256 cst
  let v1 : FVec F S16x1024x256 .f32 := maximumf arg0 v0
  v1

def fn_relu_0 {F : FTy → Type} [FloatOps F] (arg0 : FVec F S16x1024x32 .f32) : FVec F S16x1024x32 .f32 :=
  let cst : FVec F S_ .f32 := constant S_ .f32 0x00000000#32
  let v0 : FVec F S16x1024x32 .f32 := broadcastInDim S16x1024x32 ![] bcast_S_S16x1024x32 cst
  let v1 : FVec F S16x1024x32 .f32 := maximumf arg0 v0
  v1

def fn_part5 {F : FTy → Type} [FloatOps F] (main_v25 : IVec S16 1) (main_v28 : IVec S_ 1) (main_v31 : IVec S_ 1) (main_v34 : IVec S_ 1) (main_v37 : IVec S_ 1) (main_v40 : IVec S_ 1) (main_v43 : IVec S_ 1) (main_v46 : IVec S_ 1) (main_v49 : IVec S_ 1) (main_v52 : IVec S_ 1) (main_v55 : IVec S_ 1) (main_v58 : IVec S_ 1) (main_v61 : IVec S_ 1) (main_v64 : IVec S_ 1) (main_v67 : IVec S_ 1) (main_v70 : IVec S_ 1) (main_v73 : IVec S_ 1) (main_v76 : IVec S_ 1) (main_v78 : FVec F S_ .f32) (main_cst_37 : FVec F S_ .f32) : IVec S16 1 :=
  let main_v79 : IVec S_ 1 := cmpf .olt main_v78 main_cst_37
  let main_v80 : IVec S_ 1 := andi main_v28 main_v31
  let main_v81 : IVec S_ 1 := andi main_v80 main_v34
  let main_v82 : IVec S_ 1 := andi main_v81 main_v37
  let main_v83 : IVec S_ 1 := andi main_v82 main_v40
  let main_v84 : IVec S_ 1 := andi main_v83 main_v43
  let main_v85 : IVec S_ 1 := andi main_v84 main_v46
  let main_v86 : IVec S_ 1 := andi main_v85 main_v49
  let main_v87 : IVec S_ 1 := andi main_v86 main_v52
  let main_v88 : IVec S_ 1 := andi main_v87 main_v55
  let main_v89 : IVec S_ 1 := andi main_v88 main_v58
  let main_v90 : IVec S_ 1 := andi main_v89 main_v61
  let main_v91 : IVec S_ 1 := andi main_v90 main_v64
  let main_v92 : IVec S_ 1 := andi main_v91 main_v67
  let main_v93 : IVec S_ 1 := andi main_v92 main_v70
  let main_v94 : IVec S_ 1 := andi main_v93 main_v73
  let main_v95 : IVec S_ 1 := andi main_v94 main_v76
  let main_v96 : IVec S_ 1 := andi main_v95 main_v79
  let main_v97 : IVec S16 1 := broadcastInDim S16 ![] bcast_S_S16 main_v96
  let main_v98 : IVec S16 1 := andi main_v25 main_v97
  main_v98

def fn_part4 {F : FTy → Type} [FloatOps F] (main_arg19 : FVec F S512 .f32) (main_arg20 : FVec F S512x1536 .f32) (main_arg21 : FVec F S1536 .f32) (main_arg22 : FVec F S512x512 .f32) (main_arg24 : FVec F S512x256 .f32) (main_v25 : IVec S16 1) (main_v28 : IVec S_ 1) (main_v31 : IVec S_ 1) (main_v34 : IVec S_ 1) (main_v37 : IVec S_ 1) (main_v40 : IVec S_ 1) (main_v43 : IVec S_ 1) (main_v46 : IVec S_ 1) (main_v49 : IVec S_ 1) (main_v52 : IVec S_ 1) (main_v55 : IVec S_ 1) (main_v58 : IVec S_ 1) (main_v61 : IVec S_ 1) (main_v64 : IVec S_ 1) : IVec S16 1 :=
  let main_v65 : FVec F S512 .f32 := Host.absf main_arg19
  let main_cst_28 : FVec F S_ .f32 := constant S_ .f32 0xFF800000#32
  let main_v66 : FVec F S_ .f32 := (fun x v => Host.reduce FloatOps.maximumf x v reducesTo_S512_S_d0 h_S_) main_v65 main_cst_28
  let main_cst_29 : FVec F S_ .f32 := constant S_ .f32 0x7F800000#32
  let main_v67 : IVec S_ 1 := cmpf .olt main_v66 main_cst_29
  let main_v68 : FVec F S512x1536 .f32 := Host.absf main_arg20
  let main_cst_30 : FVec F S_ .f32 := constant S_ .f32 0xFF800000#32
  let main_v69 : FVec F S_ .f32 := (fun x v => Host.reduce FloatOps.maximumf x v reducesTo_S512x1536_S_d0_1 h_S_) main_v68 main_cst_30
  let main_cst_31 : FVec F S_ .f32 := constant S_ .f32 0x7F800000#32
  let main_v70 : IVec S_ 1 := cmpf .olt main_v69 main_cst_31
  let main_v71 : FVec F S1536 .f32 := Host.absf main_arg21
  let main_cst_32 : FVec F S_ .f32 := constant S_ .f32 0xFF800000#32
  let main_v72 : FVec F S_ .f32 := (fun x v => Host.reduce FloatOps.maximumf x v reducesTo_S1536_S_d0 h_S_) main_v71 main_cst_32
  let main_cst_33 : FVec F S_ .f32 := constant S_ .f32 0x7F800000#32
  let main_v73 : IVec S_ 1 := cmpf .olt main_v72 main_cst_33
  let main_v74 : FVec F S512x512 .f32 := Host.absf main_arg22
  let main_cst_34 : FVec F S_ .f32 := constant S_ .f32 0xFF800000#32
  let main_v75 : FVec F S_ .f32 := (fun x v => Host.reduce FloatOps.maximumf x v reducesTo_S512x512_S_d0_1 h_S_) main_v74 main_cst_34
  let main_cst_35 : FVec F S_ .f32 := constant S_ .f32 0x7F800000#32
  let main_v76 : IVec S_ 1 := cmpf .olt main_v75 main_cst_35
  let main_v77 : FVec F S512x256 .f32 := Host.absf main_arg24
  let main_cst_36 : FVec F S_ .f32 := constant S_ .f32 0xFF800000#32
  let main_v78 : FVec F S_ .f32 := (fun x v => Host.reduce FloatOps.maximumf x v reducesTo_S512x256_S_d0_1 h_S_) main_v77 main_cst_36
  let main_cst_37 : FVec F S_ .f32 := constant S_ .f32 0x7F800000#32
  fn_part5 (F := F) main_v25 main_v28 main_v31 main_v34 main_v37 main_v40 main_v43 main_v46 main_v49 main_v52 main_v55 main_v58 main_v61 main_v64 main_v67 main_v70 main_v73 main_v76 main_v78 main_cst_37

def fn_part3 {F : FTy → Type} [FloatOps F] (main_arg15 : FVec F S512 .f32) (main_arg16 : FVec F S1536x512 .f32) (main_arg17 : FVec F S512 .f32) (main_arg18 : FVec F S1536x512 .f32) (main_arg19 : FVec F S512 .f32) (main_arg20 : FVec F S512x1536 .f32) (main_arg21 : FVec F S1536 .f32) (main_arg22 : FVec F S512x512 .f32) (main_arg24 : FVec F S512x256 .f32) (main_v25 : IVec S16 1) (main_v28 : IVec S_ 1) (main_v31 : IVec S_ 1) (main_v34 : IVec S_ 1) (main_v37 : IVec S_ 1) (main_v40 : IVec S_ 1) (main_v43 : IVec S_ 1) (main_v46 : IVec S_ 1) (main_v49 : IVec S_ 1) (main_v50 : FVec F S512x512 .f32) : IVec S16 1 :=
  let main_cst_18 : FVec F S_ .f32 := constant S_ .f32 0xFF800000#32
  let main_v51 : FVec F S_ .f32 := (fun x v => Host.reduce FloatOps.maximumf x v reducesTo_S512x512_S_d0_1 h_S_) main_v50 main_cst_18
  let main_cst_19 : FVec F S_ .f32 := constant S_ .f32 0x7F800000#32
  let main_v52 : IVec S_ 1 := cmpf .olt main_v51 main_cst_19
  let main_v53 : FVec F S512 .f32 := Host.absf main_arg15
  let main_cst_20 : FVec F S_ .f32 := constant S_ .f32 0xFF800000#32
  let main_v54 : FVec F S_ .f32 := (fun x v => Host.reduce FloatOps.maximumf x v reducesTo_S512_S_d0 h_S_) main_v53 main_cst_20
  let main_cst_21 : FVec F S_ .f32 := constant S_ .f32 0x7F800000#32
  let main_v55 : IVec S_ 1 := cmpf .olt main_v54 main_cst_21
  let main_v56 : FVec F S1536x512 .f32 := Host.absf main_arg16
  let main_cst_22 : FVec F S_ .f32 := constant S_ .f32 0xFF800000#32
  let main_v57 : FVec F S_ .f32 := (fun x v => Host.reduce FloatOps.maximumf x v reducesTo_S1536x512_S_d0_1 h_S_) main_v56 main_cst_22
  let main_cst_23 : FVec F S_ .f32 := constant S_ .f32 0x7F800000#32
  let main_v58 : IVec S_ 1 := cmpf .olt main_v57 main_cst_23
  let main_v59 : FVec F S512 .f32 := Host.absf main_arg17
  let main_cst_24 : FVec F S_ .f32 := constant S_ .f32 0xFF800000#32
  let main_v60 : FVec F S_ .f32 := (fun x v => Host.reduce FloatOps.maximumf x v reducesTo_S512_S_d0 h_S_) main_v59 main_cst_24
  let main_cst_25 : FVec F S_ .f32 := constant S_ .f32 0x7F800000#32
  let main_v61 : IVec S_ 1 := cmpf .olt main_v60 main_cst_25
  let main_v62 : FVec F S1536x512 .f32 := Host.absf main_arg18
  let main_cst_26 : FVec F S_ .f32 := constant S_ .f32 0xFF800000#32
  let main_v63 : FVec F S_ .f32 := (fun x v => Host.reduce FloatOps.maximumf x v reducesTo_S1536x512_S_d0_1 h_S_) main_v62 main_cst_26
  let main_cst_27 : FVec F S_ .f32 := constant S_ .f32 0x7F800000#32
  let main_v64 : IVec S_ 1 := cmpf .olt main_v63 main_cst_27
  fn_part4 (F := F) main_arg19 main_arg20 main_arg21 main_arg22 main_arg24 main_v25 main_v28 main_v31 main_v34 main_v37 main_v40 main_v43 main_v46 main_v49 main_v52 main_v55 main_v58 main_v61 main_v64

def fn_part2 {F : FTy → Type} [FloatOps F] (main_arg10 : FVec F S512x512 .f32) (main_arg11 : FVec F S512 .f32) (main_arg12 : FVec F S512x1 .f32) (main_arg13 : FVec F S1 .f32) (main_arg14 : FVec F S512x512 .f32) (main_arg15 : FVec F S512 .f32) (main_arg16 : FVec F S1536x512 .f32) (main_arg17 : FVec F S512 .f32) (main_arg18 : FVec F S1536x512 .f32) (main_arg19 : FVec F S512 .f32) (main_arg20 : FVec F S512x1536 .f32) (main_arg21 : FVec F S1536 .f32) (main_arg22 : FVec F S512x512 .f32) (main_arg24 : FVec F S512x256 .f32) (main_v25 : IVec S16 1) (main_v28 : IVec S_ 1) (main_v31 : IVec S_ 1) (main_v34 : IVec S_ 1) (main_v35 : FVec F S512 .f32) (main_cst_8 : FVec F S_ .f32) : IVec S16 1 :=
  let main_v36 : FVec F S_ .f32 := (fun x v => Host.reduce FloatOps.maximumf x v reducesTo_S512_S_d0 h_S_) main_v35 main_cst_8
  let main_cst_9 : FVec F S_ .f32 := constant S_ .f32 0x7F800000#32
  let main_v37 : IVec S_ 1 := cmpf .olt main_v36 main_cst_9
  let main_v38 : FVec F S512x512 .f32 := Host.absf main_arg10
  let main_cst_10 : FVec F S_ .f32 := constant S_ .f32 0xFF800000#32
  let main_v39 : FVec F S_ .f32 := (fun x v => Host.reduce FloatOps.maximumf x v reducesTo_S512x512_S_d0_1 h_S_) main_v38 main_cst_10
  let main_cst_11 : FVec F S_ .f32 := constant S_ .f32 0x7F800000#32
  let main_v40 : IVec S_ 1 := cmpf .olt main_v39 main_cst_11
  let main_v41 : FVec F S512 .f32 := Host.absf main_arg11
  let main_cst_12 : FVec F S_ .f32 := constant S_ .f32 0xFF800000#32
  let main_v42 : FVec F S_ .f32 := (fun x v => Host.reduce FloatOps.maximumf x v reducesTo_S512_S_d0 h_S_) main_v41 main_cst_12
  let main_cst_13 : FVec F S_ .f32 := constant S_ .f32 0x7F800000#32
  let main_v43 : IVec S_ 1 := cmpf .olt main_v42 main_cst_13
  let main_v44 : FVec F S512x1 .f32 := Host.absf main_arg12
  let main_cst_14 : FVec F S_ .f32 := constant S_ .f32 0xFF800000#32
  let main_v45 : FVec F S_ .f32 := (fun x v => Host.reduce FloatOps.maximumf x v reducesTo_S512x1_S_d0_1 h_S_) main_v44 main_cst_14
  let main_cst_15 : FVec F S_ .f32 := constant S_ .f32 0x7F800000#32
  let main_v46 : IVec S_ 1 := cmpf .olt main_v45 main_cst_15
  let main_v47 : FVec F S1 .f32 := Host.absf main_arg13
  let main_cst_16 : FVec F S_ .f32 := constant S_ .f32 0xFF800000#32
  let main_v48 : FVec F S_ .f32 := (fun x v => Host.reduce FloatOps.maximumf x v reducesTo_S1_S_d0 h_S_) main_v47 main_cst_16
  let main_cst_17 : FVec F S_ .f32 := constant S_ .f32 0x7F800000#32
  let main_v49 : IVec S_ 1 := cmpf .olt main_v48 main_cst_17
  let main_v50 : FVec F S512x512 .f32 := Host.absf main_arg14
  fn_part3 (F := F) main_arg15 main_arg16 main_arg17 main_arg18 main_arg19 main_arg20 main_arg21 main_arg22 main_arg24 main_v25 main_v28 main_v31 main_v34 main_v37 main_v40 main_v43 main_v46 main_v49 main_v50

def fn_part1 {F : FTy → Type} [FloatOps F] (main_arg0 : FVec F S16x1024x1024 .f32) (main_arg1 : FVec F S16x1024x512 .f32) (main_arg8 : FVec F S1024x512 .f32) (main_arg9 : FVec F S512 .f32) (main_arg10 : FVec F S512x512 .f32) (main_arg11 : FVec F S512 .f32) (main_arg12 : FVec F S512x1 .f32) (main_arg13 : FVec F S1 .f32) (main_arg14 : FVec F S512x512 .f32) (main_arg15 : FVec F S512 .f32) (main_arg16 : FVec F S1536x512 .f32) (main_arg17 : FVec F S512 .f32) (main_arg18 : FVec F S1536x512 .f32) (main_arg19 : FVec F S512 .f32) (main_arg20 : FVec F S512x1536 .f32) (main_arg21 : FVec F S1536 .f32) (main_arg22 : FVec F S512x512 .f32) (main_arg24 : FVec F S512x256 .f32) (main_values : FVec F S16x103 .f32) (main_v17 : FVec F S16 .f32) (main_v19 : FVec F S16 .f32) : IVec S16 1 :=
  let main_v20 : FVec F S16x1 .f32 := (extractStridedSlice S16x1 ![0, 102] · slices_S16x103_S16x1_0_102) main_values
  let main_v21 : FVec F S16 .f32 := shapeCast S16 main_v20 shapeCasts_S16x1_S16
  let main_v22 : FVec F S16 .f32 := subf main_v19 main_v21
  let main_cst_1 : FVec F S_ .f32 := constant S_ .f32 0x2C000000#32
  let main_v23 : FVec F S16 .f32 := broadcastInDim S16 ![] bcast_S_S16 main_cst_1
  let main_v24 : FVec F S16 .f32 := mulf main_v17 main_v23
  let main_v25 : IVec S16 1 := cmpf .ogt main_v22 main_v24
  let main_v26 : FVec F S16x1024x1024 .f32 := Host.absf main_arg0
  let main_cst_2 : FVec F S_ .f32 := constant S_ .f32 0xFF800000#32
  let main_v27 : FVec F S_ .f32 := (fun x v => Host.reduce FloatOps.maximumf x v reducesTo_S16x1024x1024_S_d0_1_2 h_S_) main_v26 main_cst_2
  let main_cst_3 : FVec F S_ .f32 := constant S_ .f32 0x7F800000#32
  let main_v28 : IVec S_ 1 := cmpf .olt main_v27 main_cst_3
  let main_v29 : FVec F S16x1024x512 .f32 := Host.absf main_arg1
  let main_cst_4 : FVec F S_ .f32 := constant S_ .f32 0xFF800000#32
  let main_v30 : FVec F S_ .f32 := (fun x v => Host.reduce FloatOps.maximumf x v reducesTo_S16x1024x512_S_d0_1_2 h_S_) main_v29 main_cst_4
  let main_cst_5 : FVec F S_ .f32 := constant S_ .f32 0x7F800000#32
  let main_v31 : IVec S_ 1 := cmpf .olt main_v30 main_cst_5
  let main_v32 : FVec F S1024x512 .f32 := Host.absf main_arg8
  let main_cst_6 : FVec F S_ .f32 := constant S_ .f32 0xFF800000#32
  let main_v33 : FVec F S_ .f32 := (fun x v => Host.reduce FloatOps.maximumf x v reducesTo_S1024x512_S_d0_1 h_S_) main_v32 main_cst_6
  let main_cst_7 : FVec F S_ .f32 := constant S_ .f32 0x7F800000#32
  let main_v34 : IVec S_ 1 := cmpf .olt main_v33 main_cst_7
  let main_v35 : FVec F S512 .f32 := Host.absf main_arg9
  let main_cst_8 : FVec F S_ .f32 := constant S_ .f32 0xFF800000#32
  fn_part2 (F := F) main_arg10 main_arg11 main_arg12 main_arg13 main_arg14 main_arg15 main_arg16 main_arg17 main_arg18 main_arg19 main_arg20 main_arg21 main_arg22 main_arg24 main_v25 main_v28 main_v31 main_v34 main_v35 main_cst_8

def fn {F : FTy → Type} [FloatOps F] (main_arg0 : FVec F S16x1024x1024 .f32) (main_arg1 : FVec F S16x1024x512 .f32) (main_arg2 : FVec F S1024x256 .f32) (main_arg3 : FVec F S256 .f32) (main_arg4 : FVec F S256x32 .f32) (main_arg5 : FVec F S32 .f32) (main_arg6 : FVec F S32x1 .f32) (main_arg7 : FVec F S1 .f32) (main_arg8 : FVec F S1024x512 .f32) (main_arg9 : FVec F S512 .f32) (main_arg10 : FVec F S512x512 .f32) (main_arg11 : FVec F S512 .f32) (main_arg12 : FVec F S512x1 .f32) (main_arg13 : FVec F S1 .f32) (main_arg14 : FVec F S512x512 .f32) (main_arg15 : FVec F S512 .f32) (main_arg16 : FVec F S1536x512 .f32) (main_arg17 : FVec F S512 .f32) (main_arg18 : FVec F S1536x512 .f32) (main_arg19 : FVec F S512 .f32) (main_arg20 : FVec F S512x1536 .f32) (main_arg21 : FVec F S1536 .f32) (main_arg22 : FVec F S512x512 .f32) (main_arg23 : FVec F S512 .f32) (main_arg24 : FVec F S512x256 .f32) (main_arg25 : FVec F S256 .f32) (main_arg26 : FVec F S256x32 .f32) (main_arg27 : FVec F S32 .f32) (main_arg28 : FVec F S32x1 .f32) (main_arg29 : FVec F S1 .f32) : IVec S16 1 :=
  let main_v0 : FVec F S16x1024x256 .f32 := (fun l r => Host.dotGeneral dot_S16x1024x1024_S1024x256_S16x1024x256_2_0_01_1_n_n none l r) main_arg0 main_arg2
  let main_v1 : FVec F S1x1x256 .f32 := broadcastInDim S1x1x256 ![2] bcast_S256_S1x1x256_2 main_arg3
  let main_v2 : FVec F S16x1024x256 .f32 := broadcastInDim S16x1024x256 ![0, 1, 2] bcast_S1x1x256_S16x1024x256_0_1_2 main_v1
  let main_v3 : FVec F S16x1024x256 .f32 := addf main_v0 main_v2
  let main_v4 : FVec F S16x1024x256 .f32 := fn_relu (F := F) main_v3
  let main_v5 : FVec F S16x1024x32 .f32 := (fun l r => Host.dotGeneral dot_S16x1024x256_S256x32_S16x1024x32_2_0_01_1_n_n none l r) main_v4 main_arg4
  let main_v6 : FVec F S1x1x32 .f32 := broadcastInDim S1x1x32 ![2] bcast_S32_S1x1x32_2 main_arg5
  let main_v7 : FVec F S16x1024x32 .f32 := broadcastInDim S16x1024x32 ![0, 1, 2] bcast_S1x1x32_S16x1024x32_0_1_2 main_v6
  let main_v8 : FVec F S16x1024x32 .f32 := addf main_v5 main_v7
  let main_v9 : FVec F S16x1024x32 .f32 := fn_relu_0 (F := F) main_v8
  let main_v10 : FVec F S16x1024x1 .f32 := (fun l r => Host.dotGeneral dot_S16x1024x32_S32x1_S16x1024x1_2_0_01_1_n_n none l r) main_v9 main_arg6
  let main_v11 : FVec F S1x1x1 .f32 := broadcastInDim S1x1x1 ![2] bcast_S1_S1x1x1_2 main_arg7
  let main_v12 : FVec F S16x1024x1 .f32 := broadcastInDim S16x1024x1 ![0, 1, 2] bcast_S1x1x1_S16x1024x1_0_1_2 main_v11
  let main_v13 : FVec F S16x1024x1 .f32 := addf main_v10 main_v12
  let main_v14 : FVec F S16x1024 .f32 := shapeCast S16x1024 main_v13 shapeCasts_S16x1024x1_S16x1024
  let main_values : FVec F S16x103 .f32 := (fun x => (Host.topK S16x103 1 (FloatOps.cmpfTotal .gt) x sliceFits_S16x1024_S16x103).1) main_v14
  let main_indices : IVec S16x103 32 := (fun x => (Host.topK S16x103 1 (FloatOps.cmpfTotal .gt) x sliceFits_S16x1024_S16x103).2) main_v14
  let main_cst : FVec F S_ .f32 := constant S_ .f32 0xFF800000#32
  let main_v15 : FVec F S16 .f32 := (fun x v => Host.reduce FloatOps.maximumf x v reducesTo_S16x1024_S16_d1 h_S_) main_v14 main_cst
  let main_cst_0 : FVec F S_ .f32 := constant S_ .f32 0x7F800000#32
  let main_v16 : FVec F S16 .f32 := (fun x v => Host.reduce FloatOps.minimumf x v reducesTo_S16x1024_S16_d1 h_S_) main_v14 main_cst_0
  let main_v17 : FVec F S16 .f32 := subf main_v15 main_v16
  let main_v18 : FVec F S16x1 .f32 := (extractStridedSlice S16x1 ![0, 101] · slices_S16x103_S16x1_0_101) main_values
  let main_v19 : FVec F S16 .f32 := shapeCast S16 main_v18 shapeCasts_S16x1_S16
  fn_part1 (F := F) main_arg0 main_arg1 main_arg8 main_arg9 main_arg10 main_arg11 main_arg12 main_arg13 main_arg14 main_arg15 main_arg16 main_arg17 main_arg18 main_arg19 main_arg20 main_arg21 main_arg22 main_arg24 main_values main_v17 main_v19
-- ==== Kernel.lean ====
abbrev S16x1024x1024 : Shape := ⟨3, ![16, 1024, 1024]⟩
abbrev S16x1024x512 : Shape := ⟨3, ![16, 1024, 512]⟩
abbrev S1024x256 : Shape := ⟨2, ![1024, 256]⟩
abbrev S256 : Shape := ⟨1, ![256]⟩
abbrev S256x32 : Shape := ⟨2, ![256, 32]⟩
abbrev S32 : Shape := ⟨1, ![32]⟩
abbrev S32x1 : Shape := ⟨2, ![32, 1]⟩
abbrev S1 : Shape := ⟨1, ![1]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1536x512 : Shape := ⟨2, ![1536, 512]⟩
abbrev S512x1536 : Shape := ⟨2, ![512, 1536]⟩
abbrev S1536 : Shape := ⟨1, ![1536]⟩
abbrev S512x256 : Shape := ⟨2, ![512, 256]⟩
abbrev S1x512 : Shape := ⟨2, ![1, 512]⟩
abbrev S1x1536 : Shape := ⟨2, ![1, 1536]⟩
abbrev S1x256 : Shape := ⟨2, ![1, 256]⟩
abbrev S1x32 : Shape := ⟨2, ![1, 32]⟩
abbrev S1x1 : Shape := ⟨2, ![1, 1]⟩
abbrev S16x1x1024 : Shape := ⟨3, ![16, 1, 1024]⟩
abbrev S1x1024x1024 : Shape := ⟨3, ![1, 1024, 1024]⟩
abbrev S1x1024x512 : Shape := ⟨3, ![1, 1024, 512]⟩
abbrev S1x1x1024 : Shape := ⟨3, ![1, 1, 1024]⟩
abbrev S2x1x512 : Shape := ⟨3, ![2, 1, 512]⟩
abbrev S2x1024x512 : Shape := ⟨3, ![2, 1024, 512]⟩
abbrev S1x1x512 : Shape := ⟨3, ![1, 1, 512]⟩
abbrev S4x512 : Shape := ⟨2, ![4, 512]⟩
abbrev S4x1024 : Shape := ⟨2, ![4, 1024]⟩
abbrev S4 : Shape := ⟨1, ![4]⟩
abbrev S4x1 : Shape := ⟨2, ![4, 1]⟩
abbrev S1x1024 : Shape := ⟨2, ![1, 1024]⟩
abbrev S1024x1024 : Shape := ⟨2, ![1024, 1024]⟩
abbrev S1024x32 : Shape := ⟨2, ![1024, 32]⟩
abbrev S8x1 : Shape := ⟨2, ![8, 1]⟩
abbrev S8x1024 : Shape := ⟨2, ![8, 1024]⟩
abbrev S8 : Shape := ⟨1, ![8]⟩
abbrev S16x1024 : Shape := ⟨2, ![16, 1024]⟩

abbrev nBuf : Space → Nat
  | .hbm => 57
  | .vmem => 53
  | .smem => 0
  | _ => 0

abbrev bufTy : (tb : Table) → Fin (tcTables nBuf tb) → BufTy
  | .hbm, ⟨0, _⟩ => ⟨S16x1024x1024, .f32⟩
  | .hbm, ⟨1, _⟩ => ⟨S16x1024x512, .f32⟩
  | .hbm, ⟨2, _⟩ => ⟨S1024x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1024x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x1, .f32⟩
  | .hbm, ⟨13, _⟩ => ⟨S1, .f32⟩
  | .hbm, ⟨14, _⟩ => ⟨S512x512, .f32⟩
  | .hbm, ⟨15, _⟩ => ⟨S512, .f32⟩
  | .hbm, ⟨16, _⟩ => ⟨S1536x512, .f32⟩
  | .hbm, ⟨17, _⟩ => ⟨S512, .f32⟩
  | .hbm, ⟨18, _⟩ => ⟨S1536x512, .f32⟩
  | .hbm, ⟨19, _⟩ => ⟨S512, .f32⟩
  | .hbm, ⟨20, _⟩ => ⟨S512x1536, .f32⟩
  | .hbm, ⟨21, _⟩ => ⟨S1536, .f32⟩
  | .hbm, ⟨22, _⟩ => ⟨S512x512, .f32⟩
  | .hbm, ⟨23, _⟩ => ⟨S512, .f32⟩
  | .hbm, ⟨24, _⟩ => ⟨S512x256, .f32⟩
  | .hbm, ⟨25, _⟩ => ⟨S256, .f32⟩
  | .hbm, ⟨26, _⟩ => ⟨S256x32, .f32⟩
  | .hbm, ⟨27, _⟩ => ⟨S32, .f32⟩
  | .hbm, ⟨28, _⟩ => ⟨S32x1, .f32⟩
  | .hbm, ⟨29, _⟩ => ⟨S1, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x1536, .f32⟩
  | .hbm, ⟨34, _⟩ => ⟨S1x512, .f32⟩
  | .hbm, ⟨35, _⟩ => ⟨S1x256, .f32⟩
  | .hbm, ⟨36, _⟩ => ⟨S512x512, .f32⟩
  | .hbm, ⟨37, _⟩ => ⟨S1x512, .f32⟩
  | .hbm, ⟨38, _⟩ => ⟨S1536x512, .f32⟩
  | .hbm, ⟨39, _⟩ => ⟨S1x512, .f32⟩
  | .hbm, ⟨40, _⟩ => ⟨S1536x512, .f32⟩
  | .hbm, ⟨41, _⟩ => ⟨S1x512, .f32⟩
  | .hbm, ⟨42, _⟩ => ⟨S512x256, .f32⟩
  | .hbm, ⟨43, _⟩ => ⟨S1x256, .f32⟩
  | .hbm, ⟨44, _⟩ => ⟨S1x256, .f32⟩
  | .hbm, ⟨45, _⟩ => ⟨S1x32, .f32⟩
  | .hbm, ⟨46, _⟩ => ⟨S1x32, .f32⟩
  | .hbm, ⟨47, _⟩ => ⟨S1x1, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S1x1, .f32⟩
  | .hbm, ⟨52, _⟩ => ⟨S1x32, .f32⟩
  | .hbm, ⟨53, _⟩ => ⟨S1x32, .f32⟩
  | .hbm, ⟨54, _⟩ => ⟨S1x1, .f32⟩
  | .hbm, ⟨55, _⟩ => ⟨S16x1x1024, .f32⟩
  | .hbm, ⟨56, _⟩ => ⟨S16x1024, .f32⟩
  | .local _ .vmem, ⟨0, _⟩ => ⟨S512x512, .f32⟩
  | .local _ .vmem, ⟨1, _⟩ => ⟨S1x512, .f32⟩
  | .local _ .vmem, ⟨2, _⟩ => ⟨S1536x512, .f32⟩
  | .local _ .vmem, ⟨3, _⟩ => ⟨S1x512, .f32⟩
  | .local _ .vmem, ⟨4, _⟩ => ⟨S1536x512, .f32⟩
  | .local _ .vmem, ⟨5, _⟩ => ⟨S1x512, .f32⟩
  | .local _ .vmem, ⟨6, _⟩ => ⟨S512x1536, .f32⟩
  | .local _ .vmem, ⟨7, _⟩ => ⟨S1x1536, .f32⟩
  | .local _ .vmem, ⟨8, _⟩ => ⟨S512x512, .f32⟩
  | .local _ .vmem, ⟨9, _⟩ => ⟨S1x512, .f32⟩
  | .local _ .vmem, ⟨10, _⟩ => ⟨S512x256, .f32⟩
  | .local _ .vmem, ⟨11, _⟩ => ⟨S1x256, .f32⟩
  | .local _ .vmem, ⟨12, _⟩ => ⟨S512x512, .f32⟩
  | .local _ .vmem, ⟨13, _⟩ => ⟨S1x512, .f32⟩
  | .local _ .vmem, ⟨14, _⟩ => ⟨S1536x512, .f32⟩
  | .local _ .vmem, ⟨15, _⟩ => ⟨S1x512, .f32⟩
  | .local _ .vmem, ⟨16, _⟩ => ⟨S1536x512, .f32⟩
  | .local _ .vmem, ⟨17, _⟩ => ⟨S1x512, .f32⟩
  | .local _ .vmem, ⟨18, _⟩ => ⟨S512x256, .f32⟩
  | .local _ .vmem, ⟨19, _⟩ => ⟨S1x256, .f32⟩
  | .local _ .vmem, ⟨20, _⟩ => ⟨S1x1024x1024, .f32⟩
  | .local _ .vmem, ⟨21, _⟩ => ⟨S1x1024x1024, .f32⟩
  | .local _ .vmem, ⟨22, _⟩ => ⟨S1x1024x512, .f32⟩
  | .local _ .vmem, ⟨23, _⟩ => ⟨S1x1024x512, .f32⟩
  | .local _ .vmem, ⟨24, _⟩ => ⟨S1024x256, .f32⟩
  | .local _ .vmem, ⟨25, _⟩ => ⟨S1x256, .f32⟩
  | .local _ .vmem, ⟨26, _⟩ => ⟨S256x32, .f32⟩
  | .local _ .vmem, ⟨27, _⟩ => ⟨S1x32, .f32⟩
  | .local _ .vmem, ⟨28, _⟩ => ⟨S1x32, .f32⟩
  | .local _ .vmem, ⟨29, _⟩ => ⟨S1x1, .f32⟩
  | .local _ .vmem, ⟨30, _⟩ => ⟨S1024x512, .f32⟩
  | .local _ .vmem, ⟨31, _⟩ => ⟨S1x512, .f32⟩
  | .local _ .vmem, ⟨32, _⟩ => ⟨S512x512, .f32⟩
  | .local _ .vmem, ⟨33, _⟩ => ⟨S1x512, .f32⟩
  | .local _ .vmem, ⟨34, _⟩ => ⟨S1x512, .f32⟩
  | .local _ .vmem, ⟨35, _⟩ => ⟨S1x1, .f32⟩
  | .local _ .vmem, ⟨36, _⟩ => ⟨S512x512, .f32⟩
  | .local _ .vmem, ⟨37, _⟩ => ⟨S1x512, .f32⟩
  | .local _ .vmem, ⟨38, _⟩ => ⟨S1536x512, .f32⟩
  | .local _ .vmem, ⟨39, _⟩ => ⟨S1x512, .f32⟩
  | .local _ .vmem, ⟨40, _⟩ => ⟨S1536x512, .f32⟩
  | .local _ .vmem, ⟨41, _⟩ => ⟨S1x512, .f32⟩
  | .local _ .vmem, ⟨42, _⟩ => ⟨S512x256, .f32⟩
  | .local _ .vmem, ⟨43, _⟩ => ⟨S1x256, .f32⟩
  | .local _ .vmem, ⟨44, _⟩ => ⟨S256x32, .f32⟩
  | .local _ .vmem, ⟨45, _⟩ => ⟨S1x32, .f32⟩
  | .local _ .vmem, ⟨46, _⟩ => ⟨S1x32, .f32⟩
  | .local _ .vmem, ⟨47, _⟩ => ⟨S1x1, .f32⟩
  | .local _ .vmem, ⟨48, _⟩ => ⟨S1x1x1024, .f32⟩
  | .local _ .vmem, ⟨49, _⟩ => ⟨S1x1x1024, .f32⟩
  | .local _ .vmem, ⟨50, _⟩ => ⟨S2x1x512, .f32⟩
  | .local _ .vmem, ⟨51, _⟩ => ⟨S2x1024x512, .f32⟩
  | .local _ .vmem, ⟨52, _⟩ => ⟨S2x1024x512, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6_0 : Ref sig .tc := ⟨.hbm, 36, rfl⟩
abbrev main_v6_1 : Ref sig .tc := ⟨.hbm, 37, rfl⟩
abbrev main_v6_2 : Ref sig .tc := ⟨.hbm, 38, rfl⟩
abbrev main_v6_3 : Ref sig .tc := ⟨.hbm, 39, rfl⟩
abbrev main_v6_4 : Ref sig .tc := ⟨.hbm, 40, rfl⟩
abbrev main_v6_5 : Ref sig .tc := ⟨.hbm, 41, rfl⟩
abbrev main_v6_6 : Ref sig .tc := ⟨.hbm, 42, rfl⟩
abbrev main_v6_7 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg12_0 : Ref sig .tc := ⟨.vmem, 34, rfl⟩
abbrev cc1_stg13_0 : Ref sig .tc := ⟨.vmem, 35, rfl⟩
abbrev cc1_stg14_0 : Ref sig .tc := ⟨.vmem, 36, rfl⟩
abbrev cc1_stg15_0 : Ref sig .tc := ⟨.vmem, 37, rfl⟩
abbrev cc1_stg16_0 : Ref sig .tc := ⟨.vmem, 38, rfl⟩
abbrev cc1_stg17_0 : Ref sig .tc := ⟨.vmem, 39, rfl⟩
abbrev cc1_stg18_0 : Ref sig .tc := ⟨.vmem, 40, rfl⟩
abbrev cc1_stg19_0 : Ref sig .tc := ⟨.vmem, 41, rfl⟩
abbrev cc1_stg20_0 : Ref sig .tc := ⟨.vmem, 42, rfl⟩
abbrev cc1_stg21_0 : Ref sig .tc := ⟨.vmem, 43, rfl⟩
abbrev cc1_stg22_0 : Ref sig .tc := ⟨.vmem, 44, rfl⟩
abbrev cc1_stg23_0 : Ref sig .tc := ⟨.vmem, 45, rfl⟩
abbrev cc1_stg24_0 : Ref sig .tc := ⟨.vmem, 46, rfl⟩
abbrev cc1_stg25_0 : Ref sig .tc := ⟨.vmem, 47, rfl⟩
abbrev cc1_stg26_0 : Ref sig .tc := ⟨.vmem, 48, rfl⟩
abbrev cc1_stg26_1 : Ref sig .tc := ⟨.vmem, 49, rfl⟩
abbrev cc1_scratch0 : Ref sig .tc := ⟨.vmem, 50, rfl⟩
abbrev cc1_scratch1 : Ref sig .tc := ⟨.vmem, 51, rfl⟩
abbrev cc1_scratch2 : Ref sig .tc := ⟨.vmem, 52, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem12_0 : DmaSem sig := 34
abbrev cc1_sem13_0 : DmaSem sig := 35
abbrev cc1_sem14_0 : DmaSem sig := 36
abbrev cc1_sem15_0 : DmaSem sig := 37
abbrev cc1_sem16_0 : DmaSem sig := 38
abbrev cc1_sem17_0 : DmaSem sig := 39
abbrev cc1_sem18_0 : DmaSem sig := 40
abbrev cc1_sem19_0 : DmaSem sig := 41
abbrev cc1_sem20_0 : DmaSem sig := 42
abbrev cc1_sem21_0 : DmaSem sig := 43
abbrev cc1_sem22_0 : DmaSem sig := 44
abbrev cc1_sem23_0 : DmaSem sig := 45
abbrev cc1_sem24_0 : DmaSem sig := 46
abbrev cc1_sem25_0 : DmaSem sig := 47
abbrev cc1_sem26_0 : DmaSem sig := 48
abbrev cc1_sem26_1 : DmaSem sig := 49

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1536x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1536x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S512x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev grid1 : Pipeline.Grid := ⟨1, ![17], ![false]⟩

def k1_off1 (i : grid1.Coords) : Fin 3 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.remsi v0 c2_i32
  let v2 : Index := Scalar.indexCast v1
  let c0 : Index := 0#32
  let c0_0 : Index := 0#32
  ![v2.toNat, 0, 0]
def k1_off2 (i : grid1.Coords) : Fin 3 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.remsi v0 c2_i32
  let v5 : Index := Scalar.indexCast v1
  let c0_1 : Index := 0#32
  let c0_2 : Index := 0#32
  ![v5.toNat, 0, 0]
def k1_off3 (i : grid1.Coords) : Fin 3 → Nat :=
  let arg0 : BitVec 32 := BitVec.ofNat 32 (i 0).val
  let c2_i32_179 : BitVec 32 := 2#32
  let v482 : BitVec 32 := Scalar.remsi arg0 c2_i32_179
  let v483 : Index := Scalar.indexCast v482
  let c0_180 : Index := 0#32
  let c0_181 : Index := 0#32
  ![v483.toNat, 0, 0]
def k1_off4 (i : grid1.Coords) : Fin 3 → Nat :=
  let arg0 : BitVec 32 := BitVec.ofNat 32 (i 0).val
  let c2_i32_179 : BitVec 32 := 2#32
  let v482 : BitVec 32 := Scalar.remsi arg0 c2_i32_179
  let v487 : Index := Scalar.indexCast v482
  let c0_182 : Index := 0#32
  let c0_183 : Index := 0#32
  ![v487.toNat, 0, 0]
def cc1_transform_0 (i : grid1.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_25 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_26 (i : grid1.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S512x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1536x512 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x512 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1536x512 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x512 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S512x256 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x256 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S256x32 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S1x32 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S1x32 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev stage1_25 : Fin 1 → Memref sig .tc .vmem S1x1 .f32 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))
abbrev reads1_25 : Fin grid1.rank → Bool := ![false]

abbrev stage1_26 : Fin 2 → Memref sig .tc .vmem S1x1x1024 .f32 := fun | 0 => Memref.whole cc1_stg26_0 | 1 => Memref.whole cc1_stg26_1 | ⟨_ + 2, h⟩ => absurd h (Nat.not_lt.2 (Nat.le_add_left _ _))
abbrev sem1_26 : Fin 2 → DmaSem sig := fun | 0 => cc1_sem26_0 | 1 => cc1_sem26_1 | ⟨_ + 2, h⟩ => absurd h (Nat.not_lt.2 (Nat.le_add_left _ _))
abbrev reads1_26 : Fin grid1.rank → Bool := ![true]
-- ==== ReferenceIdeal.lean ====
abbrev S16x1024x1024 : Shape := ⟨3, ![16, 1024, 1024]⟩
abbrev S16x1024x512 : Shape := ⟨3, ![16, 1024, 512]⟩
abbrev S1024x256 : Shape := ⟨2, ![1024, 256]⟩
abbrev S256 : Shape := ⟨1, ![256]⟩
abbrev S256x32 : Shape := ⟨2, ![256, 32]⟩
abbrev S32 : Shape := ⟨1, ![32]⟩
abbrev S32x1 : Shape := ⟨2, ![32, 1]⟩
abbrev S1 : Shape := ⟨1, ![1]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1536x512 : Shape := ⟨2, ![1536, 512]⟩
abbrev S512x1536 : Shape := ⟨2, ![512, 1536]⟩
abbrev S1536 : Shape := ⟨1, ![1536]⟩
abbrev S512x256 : Shape := ⟨2, ![512, 256]⟩
abbrev S16x1024x256 : Shape := ⟨3, ![16, 1024, 256]⟩
abbrev S1x1x256 : Shape := ⟨3, ![1, 1, 256]⟩
abbrev S_ : Shape := ⟨0, ![]⟩
abbrev S16x1024x32 : Shape := ⟨3, ![16, 1024, 32]⟩
abbrev S1x1x32 : Shape := ⟨3, ![1, 1, 32]⟩
abbrev S16x1024x1 : Shape := ⟨3, ![16, 1024, 1]⟩
abbrev S1x1x1 : Shape := ⟨3, ![1, 1, 1]⟩
abbrev S16x1024 : Shape := ⟨2, ![16, 1024]⟩
abbrev S16x102 : Shape := ⟨2, ![16, 102]⟩
abbrev S16x102x1 : Shape := ⟨3, ![16, 102, 1]⟩
abbrev S16x102x1024 : Shape := ⟨3, ![16, 102, 1024]⟩
abbrev S16x102x512 : Shape := ⟨3, ![16, 102, 512]⟩
abbrev S1x1x512 : Shape := ⟨3, ![1, 1, 512]⟩
abbrev S16x1 : Shape := ⟨2, ![16, 1]⟩
abbrev S16x1x1 : Shape := ⟨3, ![16, 1, 1]⟩
abbrev S16x512 : Shape := ⟨2, ![16, 512]⟩
abbrev S16x1024x1536 : Shape := ⟨3, ![16, 1024, 1536]⟩
abbrev S1x512 : Shape := ⟨2, ![1, 512]⟩
abbrev S16x4x128 : Shape := ⟨3, ![16, 4, 128]⟩
abbrev S16x1024x4x128 : Shape := ⟨4, ![16, 1024, 4, 128]⟩
abbrev S16x4x1024 : Shape := ⟨3, ![16, 4, 1024]⟩
abbrev S16x4 : Shape := ⟨2, ![16, 4]⟩
abbrev S16x4x1 : Shape := ⟨3, ![16, 4, 1]⟩
abbrev S16x1x512 : Shape := ⟨3, ![16, 1, 512]⟩

abbrev nBuf : Space → Nat
  | .hbm => 190
  | .vmem => 0
  | .smem => 0
  | _ => 0

abbrev hbmTy0_0 (i : Nat) : BufTy := match i % 128 with
  | 0 => ⟨S16x1024x1024, .f32⟩
  | 1 => ⟨S16x1024x512, .f32⟩
  | 2 => ⟨S1024x256, .f32⟩
  | 3 => ⟨S256, .f32⟩
  | 4 => ⟨S256x32, .f32⟩
  | 5 => ⟨S32, .f32⟩
  | 6 => ⟨S32x1, .f32⟩
  | 7 => ⟨S1, .f32⟩
  | 8 => ⟨S1024x512, .f32⟩
  | 9 => ⟨S512, .f32⟩
  | 10 => ⟨S512x512, .f32⟩
  | 11 => ⟨S512, .f32⟩
  | 12 => ⟨S512x1, .f32⟩
  | 13 => ⟨S1, .f32⟩
  | 14 => ⟨S512x512, .f32⟩
  | 15 => ⟨S512, .f32⟩
  | 16 => ⟨S1536x512, .f32⟩
  | 17 => ⟨S512, .f32⟩
  | 18 => ⟨S1536x512, .f32⟩
  | 19 => ⟨S512, .f32⟩
  | 20 => ⟨S512x1536, .f32⟩
  | 21 => ⟨S1536, .f32⟩
  | 22 => ⟨S512x512, .f32⟩
  | 23 => ⟨S512, .f32⟩
  | 24 => ⟨S512x256, .f32⟩
  | 25 => ⟨S256, .f32⟩
  | 26 => ⟨S256x32, .f32⟩
  | 27 => ⟨S32, .f32⟩
  | 28 => ⟨S32x1, .f32⟩
  | 29 => ⟨S1, .f32⟩
  | 30 => ⟨S16x1024x256, .f32⟩
  | 31 => ⟨S1x1x256, .f32⟩
  | 32 => ⟨S16x1024x256, .f32⟩
  | 33 => ⟨S16x1024x256, .f32⟩
  | 34 => ⟨S_, .f32⟩
  | 35 => ⟨S16x1024x256, .f32⟩
  | 36 => ⟨S16x1024x256, .f32⟩
  | 37 => ⟨S16x1024x32, .f32⟩
  | 38 => ⟨S1x1x32, .f32⟩
  | 39 => ⟨S16x1024x32, .f32⟩
  | 40 => ⟨S16x1024x32, .f32⟩
  | 41 => ⟨S_, .f32⟩
  | 42 => ⟨S16x1024x32, .f32⟩
  | 43 => ⟨S16x1024x32, .f32⟩
  | 44 => ⟨S16x1024x1, .f32⟩
  | 45 => ⟨S1x1x1, .f32⟩
  | 46 => ⟨S16x1024x1, .f32⟩
  | 47 => ⟨S16x1024x1, .f32⟩
  | 48 => ⟨S16x1024, .f32⟩
  | 49 => ⟨S16x102, .f32⟩
  | 50 => ⟨S16x102, .i32⟩
  | 51 => ⟨S16x102x1, .i32⟩
  | 52 => ⟨S_, .i32⟩
  | 53 => ⟨S16x102x1, .i32⟩
  | 54 => ⟨S16x102x1, .i1⟩
  | 55 => ⟨S_, .i32⟩
  | 56 => ⟨S16x102x1, .i32⟩
  | 57 => ⟨S16x102x1, .i32⟩
  | 58 => ⟨S16x102x1, .i32⟩
  | 59 => ⟨S1, .i32⟩
  | 60 => ⟨S_, .i32⟩
  | 61 => ⟨S16x102x1, .i32⟩
  | 62 => ⟨S16x102x1, .i1⟩
  | 63 => ⟨S1x1x1, .i32⟩
  | 64 => ⟨S16x102x1, .i32⟩
  | 65 => ⟨S16x102x1, .i1⟩
  | 66 => ⟨S16x102x1, .i1⟩
  | 67 => ⟨S_, .i1⟩
  | 68 => ⟨S16x102, .i1⟩
  | 69 => ⟨S16x102x1024, .f32⟩
  | 70 => ⟨S16x102x1024, .i1⟩
  | 71 => ⟨S_, .f32⟩
  | 72 => ⟨S16x102x1024, .f32⟩
  | 73 => ⟨S16x102x1024, .f32⟩
  | 74 => ⟨S16x102x512, .f32⟩
  | 75 => ⟨S1x1x512, .f32⟩
  | 76 => ⟨S16x102x512, .f32⟩
  | 77 => ⟨S16x102x512, .f32⟩
  | 78 => ⟨S_, .f32⟩
  | 79 => ⟨S16x102x512, .f32⟩
  | 80 => ⟨S16x102x512, .f32⟩
  | 81 => ⟨S16x102x512, .f32⟩
  | 82 => ⟨S1x1x512, .f32⟩
  | 83 => ⟨S16x102x512, .f32⟩
  | 84 => ⟨S16x102x512, .f32⟩
  | 85 => ⟨S_, .f32⟩
  | 86 => ⟨S16x102x512, .f32⟩
  | 87 => ⟨S16x102x512, .f32⟩
  | 88 => ⟨S16x102x1, .f32⟩
  | 89 => ⟨S1x1x1, .f32⟩
  | 90 => ⟨S16x102x1, .f32⟩
  | 91 => ⟨S16x102x1, .f32⟩
  | 92 => ⟨S_, .f32⟩
  | 93 => ⟨S16x1, .f32⟩
  | 94 => ⟨S_, .f32⟩
  | 95 => ⟨S16x1, .f32⟩
  | 96 => ⟨S16x1, .f32⟩
  | 97 => ⟨S16x1x1, .f32⟩
  | 98 => ⟨S16x102x1, .f32⟩
  | 99 => ⟨S16x102x1, .f32⟩
  | 100 => ⟨S16x102x1, .f32⟩
  | 101 => ⟨S_, .f32⟩
  | 102 => ⟨S16x1, .f32⟩
  | 103 => ⟨S16x1x1, .f32⟩
  | 104 => ⟨S16x102x1, .f32⟩
  | 105 => ⟨S16x102x1, .f32⟩
  | 106 => ⟨S16x102x512, .f32⟩
  | 107 => ⟨S16x102x512, .f32⟩
  | 108 => ⟨S_, .f32⟩
  | 109 => ⟨S16x512, .f32⟩
  | 110 => ⟨S16x1024x1536, .f32⟩
  | 111 => ⟨S16x512, .f32⟩
  | 112 => ⟨S1x512, .f32⟩
  | 113 => ⟨S16x512, .f32⟩
  | 114 => ⟨S16x512, .f32⟩
  | 115 => ⟨S16x1024x512, .f32⟩
  | 116 => ⟨S1x1x512, .f32⟩
  | 117 => ⟨S16x1024x512, .f32⟩
  | 118 => ⟨S16x1024x512, .f32⟩
  | 119 => ⟨S16x1024x512, .f32⟩
  | 120 => ⟨S1x1x512, .f32⟩
  | 121 => ⟨S16x1024x512, .f32⟩
  | 122 => ⟨S16x1024x512, .f32⟩
  | 123 => ⟨S512x512, .f32⟩
  | 124 => ⟨S16x512, .f32⟩
  | 125 => ⟨S512, .f32⟩
  | 126 => ⟨S1x512, .f32⟩
  | 127 => ⟨S16x512, .f32⟩
  | _ => ⟨S16x1024x1024, .f32⟩

abbrev hbmTy0_1 (i : Nat) : BufTy := match i % 128 with
  | 0 => ⟨S16x512, .f32⟩
  | 1 => ⟨S16x4x128, .f32⟩
  | 2 => ⟨S512x512, .f32⟩
  | 3 => ⟨S16x1024x512, .f32⟩
  | 4 => ⟨S512, .f32⟩
  | 5 => ⟨S1x1x512, .f32⟩
  | 6 => ⟨S16x1024x512, .f32⟩
  | 7 => ⟨S16x1024x512, .f32⟩
  | 8 => ⟨S16x1024x4x128, .f32⟩
  | 9 => ⟨S512x512, .f32⟩
  | 10 => ⟨S16x1024x512, .f32⟩
  | 11 => ⟨S512, .f32⟩
  | 12 => ⟨S1x1x512, .f32⟩
  | 13 => ⟨S16x1024x512, .f32⟩
  | 14 => ⟨S16x1024x512, .f32⟩
  | 15 => ⟨S16x1024x4x128, .f32⟩
  | 16 => ⟨S16x4x1024, .f32⟩
  | 17 => ⟨S_, .f32⟩
  | 18 => ⟨S_, .f32⟩
  | 19 => ⟨S16x4x1024, .f32⟩
  | 20 => ⟨S16x4x1024, .f32⟩
  | 21 => ⟨S_, .f32⟩
  | 22 => ⟨S16x4, .f32⟩
  | 23 => ⟨S_, .f32⟩
  | 24 => ⟨S16x4, .f32⟩
  | 25 => ⟨S16x4, .f32⟩
  | 26 => ⟨S16x4x1, .f32⟩
  | 27 => ⟨S16x4x1024, .f32⟩
  | 28 => ⟨S16x4x1024, .f32⟩
  | 29 => ⟨S16x4x1024, .f32⟩
  | 30 => ⟨S_, .f32⟩
  | 31 => ⟨S16x4, .f32⟩
  | 32 => ⟨S16x4x1, .f32⟩
  | 33 => ⟨S16x4x1024, .f32⟩
  | 34 => ⟨S16x4x1024, .f32⟩
  | 35 => ⟨S16x4x128, .f32⟩
  | 36 => ⟨S16x512, .f32⟩
  | 37 => ⟨S16x512, .f32⟩
  | 38 => ⟨S1x512, .f32⟩
  | 39 => ⟨S16x512, .f32⟩
  | 40 => ⟨S16x512, .f32⟩
  | 41 => ⟨S16x1x512, .f32⟩
  | 42 => ⟨S16x1024x512, .f32⟩
  | 43 => ⟨S16x1024x256, .f32⟩
  | 44 => ⟨S1x1x256, .f32⟩
  | 45 => ⟨S16x1024x256, .f32⟩
  | 46 => ⟨S16x1024x256, .f32⟩
  | 47 => ⟨S_, .f32⟩
  | 48 => ⟨S16x1024x256, .f32⟩
  | 49 => ⟨S16x1024x256, .f32⟩
  | 50 => ⟨S16x1024x32, .f32⟩
  | 51 => ⟨S1x1x32, .f32⟩
  | 52 => ⟨S16x1024x32, .f32⟩
  | 53 => ⟨S16x1024x32, .f32⟩
  | 54 => ⟨S_, .f32⟩
  | 55 => ⟨S16x1024x32, .f32⟩
  | 56 => ⟨S16x1024x32, .f32⟩
  | 57 => ⟨S16x1024x1, .f32⟩
  | 58 => ⟨S1x1x1, .f32⟩
  | 59 => ⟨S16x1024x1, .f32⟩
  | 60 => ⟨S16x1024x1, .f32⟩
  | 61 => ⟨S16x1024, .f32⟩
  | _ => ⟨S16x1024x1024, .f32⟩

abbrev hbmTy (i : Nat) : BufTy := match i / 128 with
  | 0 => hbmTy0_0 i
  | 1 => hbmTy0_1 i
  | _ => ⟨S16x1024x1024, .f32⟩

abbrev bufTy : (tb : Table) → Fin (tcTables nBuf tb) → BufTy
  | .hbm, ⟨i, _⟩ => hbmTy i
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_call0_cst : Ref sig .tc := ⟨.hbm, 34, rfl⟩
abbrev main_call0_v0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_call1_cst : Ref sig .tc := ⟨.hbm, 41, rfl⟩
abbrev main_call1_v0 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_values : Ref sig .tc := ⟨.hbm, 49, rfl⟩
abbrev main_indices : Ref sig .tc := ⟨.hbm, 50, rfl⟩
abbrev main_v15 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_c_2 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_c_3 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_cst : Ref sig .tc := ⟨.hbm, 71, rfl⟩
abbrev main_call2_v14 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_call3_cst : Ref sig .tc := ⟨.hbm, 78, rfl⟩
abbrev main_call3_v0 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_call4_cst : Ref sig .tc := ⟨.hbm, 85, rfl⟩
abbrev main_call4_v0 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_cst : Ref sig .tc := ⟨.hbm, 92, rfl⟩
abbrev main_v31 : Ref sig .tc := ⟨.hbm, 93, rfl⟩
abbrev main_cst_0 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_cst_1 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_2 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_cst_3 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_cst_4 : Ref sig .tc := ⟨.hbm, 149, rfl⟩
abbrev main_v83 : Ref sig .tc := ⟨.hbm, 150, rfl⟩
abbrev main_cst_5 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_cst_6 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_call5_cst : Ref sig .tc := ⟨.hbm, 175, rfl⟩
abbrev main_call5_v0 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_call6_cst : Ref sig .tc := ⟨.hbm, 182, rfl⟩
abbrev main_call6_v0 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩

abbrev nD : Nat := 1
abbrev τ : Topo := Topo.v7x

variable {F : FTy → Type} [FloatOps F]
-- ==== Proof.IFold.lean ====
/- The fold call (the first kernel call, one grid point): the contents its body leaves in each of its eight result
   blocks, the body's triple, the pipeline's proof data and the body obligation, all at a parameter `V`, the contents of
   the buffers when the call is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__fold_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x1536 := Rect.unit (s := S512x1536) ![0, 0] S512x512.size inb_S512x1536_S512x512_0_0
abbrev r0_1 : Rect S512x1536 := Rect.unit (s := S512x1536) ![0, 512] S512x512.size inb_S512x1536_S512x512_0_512
abbrev r0_2 : Rect S512x1536 := Rect.unit (s := S512x1536) ![0, 1024] S512x512.size inb_S512x1536_S512x512_0_1024
abbrev r0_3 : Rect S512x512 := Rect.unit (s := S512x512) ![0, 0] S512x512.size inb_S512x512_S512x512_0_0
abbrev r0_4 : Rect S1x512 := Rect.unit (s := S1x512) ![0, 0] S1x512.size inb_S1x512_S1x512_0_0
abbrev r0_5 : Rect S1x1536 := Rect.unit (s := S1x1536) ![0, 0] S1x512.size inb_S1x1536_S1x512_0_0
abbrev r0_6 : Rect S1536x512 := Rect.unit (s := S1536x512) ![0, 0] S1536x512.size inb_S1536x512_S1536x512_0_0
abbrev r0_7 : Rect S1x1536 := Rect.unit (s := S1x1536) ![0, 512] S1x512.size inb_S1x1536_S1x512_0_512
abbrev r0_8 : Rect S1x1536 := Rect.unit (s := S1x1536) ![0, 1024] S1x512.size inb_S1x1536_S1x512_0_1024
abbrev r0_9 : Rect S512x256 := Rect.unit (s := S512x256) ![0, 0] S512x256.size inb_S512x256_S512x256_0_0
abbrev r0_10 : Rect S1x256 := Rect.unit (s := S1x256) ![0, 0] S1x256.size inb_S1x256_S1x256_0_0

/-! ## What the body leaves in each output window's buffer -/

/-- Window 12's staging buffer after the body, from the input windows' blocks: its 1 store as pieces, LAST
    FIRST (Lib/Pipeline/FrameBody.lean `View.canon`; the payloads are the skeleton's). -/
def out0_12 (x0 : Vec F S512x512 .f32) (x1 : Vec F S1x512 .f32) (x2 : Vec F S1536x512 .f32) (x3 : Vec F S1x512 .f32) (x4 : Vec F S1536x512 .f32) (x5 : Vec F S1x512 .f32) (x6 : Vec F S512x1536 .f32) (x7 : Vec F S1x1536 .f32) (x8 : Vec F S512x512 .f32) (x9 : Vec F S1x512 .f32) (x10 : Vec F S512x256 .f32) (x11 : Vec F S1x256 .f32) : Vec F S512x512 .f32 :=
  View.canon [⟨r0_3, k0_pay5 (View.ld x6 r0_0) (View.ld x0 r0_3)⟩]

/-- Its stores tile the buffer (checked by evaluation), so they cover it. -/
theorem cover0_12 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

/-- Window 13's staging buffer after the body, from the input windows' blocks: its 1 store as pieces, LAST
    FIRST (Lib/Pipeline/FrameBody.lean `View.canon`; the payloads are the skeleton's). -/
def out0_13 (x0 : Vec F S512x512 .f32) (x1 : Vec F S1x512 .f32) (x2 : Vec F S1536x512 .f32) (x3 : Vec F S1x512 .f32) (x4 : Vec F S1536x512 .f32) (x5 : Vec F S1x512 .f32) (x6 : Vec F S512x1536 .f32) (x7 : Vec F S1x1536 .f32) (x8 : Vec F S512x512 .f32) (x9 : Vec F S1x512 .f32) (x10 : Vec F S512x256 .f32) (x11 : Vec F S1x256 .f32) : Vec F S1x512 .f32 :=
  View.canon [⟨r0_4, k0_pay6 (View.ld x6 r0_0) (View.ld x1 r0_4) (View.ld x7 r0_5)⟩]

/-- Its stores tile the buffer (checked by evaluation), so they cover it. -/
theorem cover0_13 (p0 : Vec F S1x512 .f32) (y : S1x512.Idx) :
    ∃ pc ∈ ([⟨r0_4, p0⟩] : List (View.Piece (Elt F) S1x512 .f32)), y ∈ pc.1.set :=
  View.cover_of_tiled [⟨r0_4, p0⟩] S1x512.size (by rfl) y

/-- Window 14's staging buffer after the body, from the input windows' blocks: its 1 store as pieces, LAST
    FIRST (Lib/Pipeline/FrameBody.lean `View.canon`; the payloads are the skeleton's). -/
def out0_14 (x0 : Vec F S512x512 .f32) (x1 : Vec F S1x512 .f32) (x2 : Vec F S1536x512 .f32) (x3 : Vec F S1x512 .f32) (x4 : Vec F S1536x512 .f32) (x5 : Vec F S1x512 .f32) (x6 : Vec F S512x1536 .f32) (x7 : Vec F S1x1536 .f32) (x8 : Vec F S512x512 .f32) (x9 : Vec F S1x512 .f32) (x10 : Vec F S512x256 .f32) (x11 : Vec F S1x256 .f32) : Vec F S1536x512 .f32 :=
  View.canon [⟨r0_6, k0_pay7 (View.ld x6 r0_1) (View.ld x2 r0_6)⟩]

/-- Its stores tile the buffer (checked by evaluation), so they cover it. -/
theorem cover0_14 (p0 : Vec F S1536x512 .f32) (y : S1536x512.Idx) :
    ∃ pc ∈ ([⟨r0_6, p0⟩] : List (View.Piece (Elt F) S1536x512 .f32)), y ∈ pc.1.set :=
  View.cover_of_tiled [⟨r0_6, p0⟩] S1536x512.size (by rfl) y

/-- Window 15's staging buffer after the body, from the input windows' blocks: its 1 store as pieces, LAST
    FIRST (Lib/Pipeline/FrameBody.lean `View.canon`; the payloads are the skeleton's). -/
def out0_15 (x0 : Vec F S512x512 .f32) (x1 : Vec F S1x512 .f32) (x2 : Vec F S1536x512 .f32) (x3 : Vec F S1x512 .f32) (x4 : Vec F S1536x512 .f32) (x5 : Vec F S1x512 .f32) (x6 : Vec F S512x1536 .f32) (x7 : Vec F S1x1536 .f32) (x8 : Vec F S512x512 .f32) (x9 : Vec F S1x512 .f32) (x10 : Vec F S512x256 .f32) (x11 : Vec F S1x256 .f32) : Vec F S1x512 .f32 :=
  View.canon [⟨r0_4, k0_pay8 (View.ld x6 r0_1) (View.ld x3 r0_4) (View.ld x7 r0_7)⟩]

/-- Its stores tile the buffer (checked by evaluation), so they cover it. -/
theorem cover0_15 (p0 : Vec F S1x512 .f32) (y : S1x512.Idx) :
    ∃ pc ∈ ([⟨r0_4, p0⟩] : List (View.Piece (Elt F) S1x512 .f32)), y ∈ pc.1.set :=
  View.cover_of_tiled [⟨r0_4, p0⟩] S1x512.size (by rfl) y

/-- Window 16's staging buffer after the body, from the input windows' blocks: its 1 store as pieces, LAST
    FIRST (Lib/Pipeline/FrameBody.lean `View.canon`; the payloads are the skeleton's). -/
def out0_16 (x0 : Vec F S512x512 .f32) (x1 : Vec F S1x512 .f32) (x2 : Vec F S1536x512 .f32) (x3 : Vec F S1x512 .f32) (x4 : Vec F S1536x512 .f32) (x5 : Vec F S1x512 .f32) (x6 : Vec F S512x1536 .f32) (x7 : Vec F S1x1536 .f32) (x8 : Vec F S512x512 .f32) (x9 : Vec F S1x512 .f32) (x10 : Vec F S512x256 .f32) (x11 : Vec F S1x256 .f32) : Vec F S1536x512 .f32 :=
  View.canon [⟨r0_6, k0_pay1 (View.ld x6 r0_2) (View.ld x4 r0_6)⟩]

/-- Its stores tile the buffer (checked by evaluation), so they cover it. -/
theorem cover0_16 (p0 : Vec F S1536x512 .f32) (y : S1536x512.Idx) :
    ∃ pc ∈ ([⟨r0_6, p0⟩] : List (View.Piece (Elt F) S1536x512 .f32)), y ∈ pc.1.set :=
  View.cover_of_tiled [⟨r0_6, p0⟩] S1536x512.size (by rfl) y

/-- Window 17's staging buffer after the body, from the input windows' blocks: its 1 store as pieces, LAST
    FIRST (Lib/Pipeline/FrameBody.lean `View.canon`; the payloads are the skeleton's). -/
def out0_17 (x0 : Vec F S512x512 .f32) (x1 : Vec F S1x512 .f32) (x2 : Vec F S1536x512 .f32) (x3 : Vec F S1x512 .f32) (x4 : Vec F S1536x512 .f32) (x5 : Vec F S1x512 .f32) (x6 : Vec F S512x1536 .f32) (x7 : Vec F S1x1536 .f32) (x8 : Vec F S512x512 .f32) (x9 : Vec F S1x512 .f32) (x10 : Vec F S512x256 .f32) (x11 : Vec F S1x256 .f32) : Vec F S1x512 .f32 :=
  View.canon [⟨r0_4, k0_pay2 (View.ld x6 r0_2) (View.ld x5 r0_4) (View.ld x7 r0_8)⟩]

/-- Its stores tile the buffer (checked by evaluation), so they cover it. -/
theorem cover0_17 (p0 : Vec F S1x512 .f32) (y : S1x512.Idx) :
    ∃ pc ∈ ([⟨r0_4, p0⟩] : List (View.Piece (Elt F) S1x512 .f32)), y ∈ pc.1.set :=
  View.cover_of_tiled [⟨r0_4, p0⟩] S1x512.size (by rfl) y

/-- Window 18's staging buffer after the body, from the input windows' blocks: its 1 store as pieces, LAST
    FIRST (Lib/Pipeline/FrameBody.lean `View.canon`; the payloads are the skeleton's). -/
def out0_18 (x0 : Vec F S512x512 .f32) (x1 : Vec F S1x512 .f32) (x2 : Vec F S1536x512 .f32) (x3 : Vec F S1x512 .f32) (x4 : Vec F S1536x512 .f32) (x5 : Vec F S1x512 .f32) (x6 : Vec F S512x1536 .f32) (x7 : Vec F S1x1536 .f32) (x8 : Vec F S512x512 .f32) (x9 : Vec F S1x512 .f32) (x10 : Vec F S512x256 .f32) (x11 : Vec F S1x256 .f32) : Vec F S512x256 .f32 :=
  View.canon [⟨r0_9, k0_pay3 (View.ld x8 r0_3) (View.ld x10 r0_9)⟩]

/-- Its stores tile the buffer (checked by evaluation), so they cover it. -/
theorem cover0_18 (p0 : Vec F S512x256 .f32) (y : S512x256.Idx) :
    ∃ pc ∈ ([⟨r0_9, p0⟩] : List (View.Piece (Elt F) S512x256 .f32)), y ∈ pc.1.set :=
  View.cover_of_tiled [⟨r0_9, p0⟩] S512x256.size (by rfl) y

/-- Window 19's staging buffer after the body, from the input windows' blocks: its 1 store as pieces, LAST
    FIRST (Lib/Pipeline/FrameBody.lean `View.canon`; the payloads are the skeleton's). -/
def out0_19 (x0 : Vec F S512x512 .f32) (x1 : Vec F S1x512 .f32) (x2 : Vec F S1536x512 .f32) (x3 : Vec F S1x512 .f32) (x4 : Vec F S1536x512 .f32) (x5 : Vec F S1x512 .f32) (x6 : Vec F S512x1536 .f32) (x7 : Vec F S1x1536 .f32) (x8 : Vec F S512x512 .f32) (x9 : Vec F S1x512 .f32) (x10 : Vec F S512x256 .f32) (x11 : Vec F S1x256 .f32) : Vec F S1x256 .f32 :=
  View.canon [⟨r0_10, k0_pay4 (View.ld x9 r0_4) (View.ld x10 r0_9) (View.ld x11 r0_10)⟩]

/-- Its stores tile the buffer (checked by evaluation), so they cover it. -/
theorem cover0_19 (p0 : Vec F S1x256 .f32) (y : S1x256.Idx) :
    ∃ pc ∈ ([⟨r0_10, p0⟩] : List (View.Piece (Elt F) S1x256 .f32)), y ∈ pc.1.set :=
  View.cover_of_tiled [⟨r0_10, p0⟩] S1x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel0 (c : Dev nD) (E : Set ℕ) (arg0 : Memref sig .tc .vmem S512x512 .f32) (harg0 : arg0.IsWhole) (arg1 : Memref sig .tc .vmem S1x512 .f32) (harg1 : arg1.IsWhole) (arg2 : Memref sig .tc .vmem S1536x512 .f32) (harg2 : arg2.IsWhole) (arg3 : Memref sig .tc .vmem S1x512 .f32) (harg3 : arg3.IsWhole) (arg4 : Memref sig .tc .vmem S1536x512 .f32) (harg4 : arg4.IsWhole) (arg5 : Memref sig .tc .vmem S1x512 .f32) (harg5 : arg5.IsWhole) (arg6 : Memref sig .tc .vmem S512x1536 .f32) (harg6 : arg6.IsWhole) (arg7 : Memref sig .tc .vmem S1x1536 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S1536x512 .f32) (harg14 : arg14.IsWhole) (arg15 : Memref sig .tc .vmem S1x512 .f32) (harg15 : arg15.IsWhole) (arg16 : Memref sig .tc .vmem S1536x512 .f32) (harg16 : arg16.IsWhole) (arg17 : Memref sig .tc .vmem S1x512 .f32) (harg17 : arg17.IsWhole) (arg18 : Memref sig .tc .vmem S512x256 .f32) (harg18 : arg18.IsWhole) (arg19 : Memref sig .tc .vmem S1x256 .f32) (harg19 : arg19.IsWhole)
    (x0 : Vec F S512x512 .f32) (x1 : Vec F S1x512 .f32) (x2 : Vec F S1536x512 .f32) (x3 : Vec F S1x512 .f32) (x4 : Vec F S1536x512 .f32) (x5 : Vec F S1x512 .f32) (x6 : Vec F S512x1536 .f32) (x7 : Vec F S1x1536 .f32) (x8 : Vec F S512x512 .f32) (x9 : Vec F S1x512 .f32) (x10 : Vec F S512x256 .f32) (x11 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out0_12 x0 x1 x2 x3 x4 x5 x6 x7 x8 x9 x10 x11) ∗ owns (c : Thread nD τ) arg13 fullShare (out0_13 x0 x1 x2 x3 x4 x5 x6 x7 x8 x9 x10 x11) ∗ owns (c : Thread nD τ) arg14 fullShare (out0_14 x0 x1 x2 x3 x4 x5 x6 x7 x8 x9 x10 x11) ∗ owns (c : Thread nD τ) arg15 fullShare (out0_15 x0 x1 x2 x3 x4 x5 x6 x7 x8 x9 x10 x11) ∗ owns (c : Thread nD τ) arg16 fullShare (out0_16 x0 x1 x2 x3 x4 x5 x6 x7 x8 x9 x10 x11) ∗ owns (c : Thread nD τ) arg17 fullShare (out0_17 x0 x1 x2 x3 x4 x5 x6 x7 x8 x9 x10 x11) ∗ owns (c : Thread nD τ) arg18 fullShare (out0_18 x0 x1 x2 x3 x4 x5 x6 x7 x8 x9 x10 x11) ∗ owns (c : Thread nD τ) arg19 fullShare (out0_19 x0 x1 x2 x3 x4 x5 x6 x7 x8 x9 x10 x11)) -∗ K ⟨⟩))
      ⊢ wp frame (wpE (defs₀ (F := F)) Variants.none c none) E (cc0__fold_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fold_kernel_eq_skeleton]; unfold cc0__fold_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover0_12 _)
  isplitl [H13]
  · iexists _; isplitr
    swap; · iexact H13
    ipureintro
    exact View.read_writes_eq_canon _ _ _ (cover0_13 _)
  isplitl [H14]
  · iexists _; isplitr
    swap; · iexact H14
    ipureintro
    exact View.read_writes_eq_canon _ _ _ (cover0_14 _)
  isplitl [H15]
  · iexists _; isplitr
    swap; · iexact H15
    ipureintro
    exact View.read_writes_eq_canon _ _ _ (cover0_15 _)
  isplitl [H16]
  · iexists _; isplitr
    swap; · iexact H16
    ipureintro
    exact View.read_writes_eq_canon _ _ _ (cover0_16 _)
  isplitl [H17]
  · iexists _; isplitr
    swap; · iexact H17
    ipureintro
    exact View.read_writes_eq_canon _ _ _ (cover0_17 _)
  isplitl [H18]
  · iexists _; isplitr
    swap; · iexact H18
    ipureintro
    exact View.read_writes_eq_canon _ _ _ (cover0_18 _)
  iexists _; isplitr
  swap; · iexact H19
  ipureintro
  exact View.read_writes_eq_canon _ _ _ (cover0_19 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨16, _⟩ => out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨18, _⟩ => out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨19, _⟩ => out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨_ + 20, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_16 (c : Dev nD) (t : Fin cfg0.N) : (dat0 V c).after 16 t = out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_18 (c : Dev nD) (t : Fin cfg0.N) : (dat0 V c).after 18 t = out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_19 (c : Dev nD) (t : Fin cfg0.N) : (dat0 V c).after 19 t = out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel0 c Set.univ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run
-- ==== Proof.IBody.lean ====
/- The main call's body: the values it stores, as functions of its input blocks and of the scratch slots it reads, and
   its triple. At grid point `i` the body reads the slot the point before wrote, writes the result block from it, then
   computes the point's own pooled vector, keys and values and writes them to the other slot. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles of the body's accesses -/

/-- The whole of a block of shape `S1x1024x1024`. -/
abbrev w_S1x1024x1024 : Rect S1x1024x1024 := Rect.unit (s := S1x1024x1024) ![0, 0, 0] S1x1024x1024.size inb_S1x1024x1024_S1x1024x1024_0_0_0
/-- The whole of a block of shape `S1x1024x512`. -/
abbrev w_S1x1024x512 : Rect S1x1024x512 := Rect.unit (s := S1x1024x512) ![0, 0, 0] S1x1024x512.size inb_S1x1024x512_S1x1024x512_0_0_0
/-- The whole of a block of shape `S1024x256`. -/
abbrev w_S1024x256 : Rect S1024x256 := Rect.unit (s := S1024x256) ![0, 0] S1024x256.size inb_S1024x256_S1024x256_0_0
/-- The whole of a block of shape `S1x256`. -/
abbrev w_S1x256 : Rect S1x256 := Rect.unit (s := S1x256) ![0, 0] S1x256.size inb_S1x256_S1x256_0_0
/-- The whole of a block of shape `S256x32`. -/
abbrev w_S256x32 : Rect S256x32 := Rect.unit (s := S256x32) ![0, 0] S256x32.size inb_S256x32_S256x32_0_0
/-- The whole of a block of shape `S1x32`. -/
abbrev w_S1x32 : Rect S1x32 := Rect.unit (s := S1x32) ![0, 0] S1x32.size inb_S1x32_S1x32_0_0
/-- The whole of a block of shape `S1x1`. -/
abbrev w_S1x1 : Rect S1x1 := Rect.unit (s := S1x1) ![0, 0] S1x1.size inb_S1x1_S1x1_0_0
/-- The whole of a block of shape `S1024x512`. -/
abbrev w_S1024x512 : Rect S1024x512 := Rect.unit (s := S1024x512) ![0, 0] S1024x512.size inb_S1024x512_S1024x512_0_0
/-- The whole of a block of shape `S1x512`. -/
abbrev w_S1x512 : Rect S1x512 := Rect.unit (s := S1x512) ![0, 0] S1x512.size inb_S1x512_S1x512_0_0
/-- The whole of a block of shape `S512x512`. -/
abbrev w_S512x512 : Rect S512x512 := Rect.unit (s := S512x512) ![0, 0] S512x512.size inb_S512x512_S512x512_0_0
/-- The whole of a block of shape `S512x256`. -/
abbrev w_S512x256 : Rect S512x256 := Rect.unit (s := S512x256) ![0, 0] S512x256.size inb_S512x256_S512x256_0_0
/-- The whole of a block of shape `S1x1x1024`. -/
abbrev w_S1x1x1024 : Rect S1x1x1024 := Rect.unit (s := S1x1x1024) ![0, 0, 0] S1x1x1024.size inb_S1x1x1024_S1x1x1024_0_0_0
/-- The first 1024 rows of a 1536-row block, -/
abbrev rTop : Rect S1536x512 := Rect.unit (s := S1536x512) ![0, 0] S1024x512.size inb_S1536x512_S1024x512_0_0
/-- and its last 512 rows. -/
abbrev rBot : Rect S1536x512 := Rect.unit (s := S1536x512) ![1024, 0] S512x512.size inb_S1536x512_S512x512_1024_0
/-- The slot of the pooled-vector scratch the body reads at point `i`, -/
abbrev rdC (i : grid1.Coords) : Rect S2x1x512 := Rect.unit (s := S2x1x512) (k1_off1 i) S1x1x512.size (k1_off1_inb i)
/-- the slot of the key and value scratches it reads, -/
abbrev rdK (i : grid1.Coords) : Rect S2x1024x512 := Rect.unit (s := S2x1024x512) (k1_off2 i) S1x1024x512.size (k1_off2_inb i)
/-- the slot of the pooled-vector scratch it writes, -/
abbrev wrC (i : grid1.Coords) : Rect S2x1x512 := Rect.unit (s := S2x1x512) (k1_off3 i) S1x1x512.size (k1_off3_inb i)
/-- and the slot of the key and value scratches it writes. -/
abbrev wrK (i : grid1.Coords) : Rect S2x1024x512 := Rect.unit (s := S2x1024x512) (k1_off4 i) S1x1024x512.size (k1_off4_inb i)

/-! ## The stored values -/

section Values
/-- The scoring network's last hidden layer, before its rectifier. -/
def hid (x0 : Vec F S1x1024x1024 .f32) (x2 : Vec F S1024x256 .f32) (x3 : Vec F S1x256 .f32) (x4 : Vec F S256x32 .f32) (x5 : Vec F S1x32 .f32) : FVec F S1024x32 .f32 :=
  k1_pay14 (View.ld x0 w_S1x1024x1024) (View.ld x2 w_S1024x256) (View.ld x3 w_S1x256) (View.ld x4 w_S256x32) (View.ld x5 w_S1x32)
/-- The eighth, the bisection step. -/
def cst8  : F .f32 :=
  Scalar.ofBits .f32 0x3E000000#32
/-- The row of scores. -/
def sc (p111 : FVec F S1024x32 .f32) (p114 : Vec F S1x32 .f32) (p117 : Vec F S1x1 .f32) : FVec F S1x1024 .f32 :=
  k1_pay16 p111 (k1_pay15 (F := F)) p114 p117
/-- The bisection's first lower end. -/
def lo0 (p111 : FVec F S1024x32 .f32) (p114 : Vec F S1x32 .f32) (p117 : Vec F S1x1 .f32) : FVec F S1x1 .f32 :=
  k1_pay19 p111 (k1_pay15 (F := F)) p114 p117
/-- The bisection's first upper end. -/
def hi0 (p111 : FVec F S1024x32 .f32) (p114 : Vec F S1x32 .f32) (p117 : Vec F S1x1 .f32) : FVec F S1x1 .f32 :=
  k1_pay20 p111 (k1_pay15 (F := F)) p114 p117
/-- The eight fractions. -/
def fr  : FVec F S8x1 .f32 :=
  k1_pay22 (k1_pay21 (F := F)) cst8
/-- Bisection state. -/
def b191 (p111 : FVec F S1024x32 .f32) (p114 : Vec F S1x32 .f32) (p117 : Vec F S1x1 .f32) : FVec F S1x1 .f32 :=
  k1_pay28 (sc p111 p114 p117) (lo0 p111 p114 p117) (hi0 p111 p114 p117) (k1_pay21 (F := F)) cst8
/-- Bisection state. -/
def b196 (p111 : FVec F S1024x32 .f32) (p114 : Vec F S1x32 .f32) (p117 : Vec F S1x1 .f32) : FVec F S1x1 .f32 :=
  k1_pay29 (sc p111 p114 p117) (lo0 p111 p114 p117) (hi0 p111 p114 p117) (k1_pay21 (F := F)) cst8
/-- Bisection state. -/
def b237 (p111 : FVec F S1024x32 .f32) (p114 : Vec F S1x32 .f32) (p117 : Vec F S1x1 .f32) : FVec F S1x1 .f32 :=
  k1_pay35 (sc p111 p114 p117) fr (b191 p111 p114 p117) (b196 p111 p114 p117)
/-- Bisection state. -/
def b242 (p111 : FVec F S1024x32 .f32) (p114 : Vec F S1x32 .f32) (p117 : Vec F S1x1 .f32) : FVec F S1x1 .f32 :=
  k1_pay36 (sc p111 p114 p117) fr (b191 p111 p114 p117) (b196 p111 p114 p117)
/-- Bisection state. -/
def b244 (p111 : FVec F S1024x32 .f32) (p114 : Vec F S1x32 .f32) (p117 : Vec F S1x1 .f32) : FVec F S8x1 .f32 :=
  k1_pay37 (sc p111 p114 p117) fr (b191 p111 p114 p117) (b196 p111 p114 p117)
/-- Bisection state. -/
def b288 (p111 : FVec F S1024x32 .f32) (p114 : Vec F S1x32 .f32) (p117 : Vec F S1x1 .f32) : FVec F S1x1 .f32 :=
  k1_pay44 (sc p111 p114 p117) fr (b237 p111 p114 p117) (b242 p111 p114 p117) (b244 p111 p114 p117)
/-- Bisection state. -/
def b291 (p111 : FVec F S1024x32 .f32) (p114 : Vec F S1x32 .f32) (p117 : Vec F S1x1 .f32) : FVec F S8x1 .f32 :=
  k1_pay45 (sc p111 p114 p117) fr (b237 p111 p114 p117) (b242 p111 p114 p117) (b244 p111 p114 p117)
/-- Bisection state. -/
def b292 (p111 : FVec F S1024x32 .f32) (p114 : Vec F S1x32 .f32) (p117 : Vec F S1x1 .f32) : FVec F S8x1 .f32 :=
  k1_pay46 (sc p111 p114 p117) fr (b237 p111 p114 p117) (b242 p111 p114 p117) (b244 p111 p114 p117)
/-- Bisection state. -/
def b334 (p111 : FVec F S1024x32 .f32) (p114 : Vec F S1x32 .f32) (p117 : Vec F S1x1 .f32) : FVec F S1x1 .f32 :=
  k1_pay52 (sc p111 p114 p117) fr (b288 p111 p114 p117) (b291 p111 p114 p117) (b292 p111 p114 p117)
/-- Bisection state. -/
def b339 (p111 : FVec F S1024x32 .f32) (p114 : Vec F S1x32 .f32) (p117 : Vec F S1x1 .f32) : FVec F S8x1 .f32 :=
  k1_pay53 (sc p111 p114 p117) fr (b288 p111 p114 p117) (b291 p111 p114 p117) (b292 p111 p114 p117)
/-- Bisection state. -/
def b340 (p111 : FVec F S1024x32 .f32) (p114 : Vec F S1x32 .f32) (p117 : Vec F S1x1 .f32) : FVec F S8x1024 .f32 :=
  k1_pay54 (sc p111 p114 p117)
/-- Bisection state. -/
def b380 (p111 : FVec F S1024x32 .f32) (p114 : Vec F S1x32 .f32) (p117 : Vec F S1x1 .f32) : FVec F S1x1 .f32 :=
  k1_pay59 (sc p111 p114 p117) fr (b334 p111 p114 p117) (b339 p111 p114 p117) (b340 p111 p114 p117)
/-- Bisection state. -/
def b385 (p111 : FVec F S1024x32 .f32) (p114 : Vec F S1x32 .f32) (p117 : Vec F S1x1 .f32) : FVec F S8x1 .f32 :=
  k1_pay60 (sc p111 p114 p117) fr (b334 p111 p114 p117) (b339 p111 p114 p117) (b340 p111 p114 p117)
/-- Bisection state. -/
def b388 (p111 : FVec F S1024x32 .f32) (p114 : Vec F S1x32 .f32) (p117 : Vec F S1x1 .f32) : IVec S8x1024 1 :=
  k1_pay61 (sc p111 p114 p117) fr (b334 p111 p114 p117) (b339 p111 p114 p117) (b340 p111 p114 p117)
/-- Bisection state. -/
def b431 (p111 : FVec F S1024x32 .f32) (p114 : Vec F S1x32 .f32) (p117 : Vec F S1x1 .f32) : FVec F S8x1 .f32 :=
  k1_pay62 (sc p111 p114 p117) fr (b380 p111 p114 p117) (b385 p111 p114 p117) (b388 p111 p114 p117)
/-- Bisection state. -/
def b436 (p111 : FVec F S1024x32 .f32) (p114 : Vec F S1x32 .f32) (p117 : Vec F S1x1 .f32) : FVec F S8x1024 .f32 :=
  k1_pay63 (sc p111 p114 p117) fr (b380 p111 p114 p117) (b385 p111 p114 p117) (b388 p111 p114 p117)
/-- The pooled vector stored at a point. -/
def camV (x0 : Vec F S1x1024x1024 .f32) (x2 : Vec F S1024x256 .f32) (x3 : Vec F S1x256 .f32) (x4 : Vec F S256x32 .f32) (x5 : Vec F S1x32 .f32) (x6 : Vec F S1x32 .f32) (x7 : Vec F S1x1 .f32) (x8 : Vec F S1024x512 .f32) (x9 : Vec F S1x512 .f32) (x10 : Vec F S512x512 .f32) (x11 : Vec F S1x512 .f32) (x12 : Vec F S1x512 .f32) (x13 : Vec F S1x1 .f32) : FVec F S1x1x512 .f32 :=
  k1_pay1 (k1_pay64 (k1_pay12 (View.ld x0 w_S1x1024x1024)) (View.ld x8 w_S1024x512) (View.ld x9 w_S1x512) (View.ld x10 w_S512x512) (View.ld x11 w_S1x512)) (k1_pay65 (k1_pay12 (View.ld x0 w_S1x1024x1024)) (sc (hid x0 x2 x3 x4 x5) (View.ld x6 w_S1x32) (View.ld x7 w_S1x1)) (b431 (hid x0 x2 x3 x4 x5) (View.ld x6 w_S1x32) (View.ld x7 w_S1x1)) (b436 (hid x0 x2 x3 x4 x5) (View.ld x6 w_S1x32) (View.ld x7 w_S1x1)) (View.ld x8 w_S1024x512) (View.ld x9 w_S1x512) (View.ld x10 w_S512x512) (View.ld x11 w_S1x512) (View.ld x12 w_S1x512) (View.ld x13 w_S1x1)) (k1_pay66 (k1_pay12 (View.ld x0 w_S1x1024x1024)) (sc (hid x0 x2 x3 x4 x5) (View.ld x6 w_S1x32) (View.ld x7 w_S1x1)) (b431 (hid x0 x2 x3 x4 x5) (View.ld x6 w_S1x32) (View.ld x7 w_S1x1)) (b436 (hid x0 x2 x3 x4 x5) (View.ld x6 w_S1x32) (View.ld x7 w_S1x1)) (View.ld x8 w_S1024x512) (View.ld x9 w_S1x512) (View.ld x10 w_S512x512) (View.ld x11 w_S1x512) (View.ld x12 w_S1x512) (View.ld x13 w_S1x1))
/-- The keys stored at a point. -/
def kkV (x0 : Vec F S1x1024x1024 .f32) (x1 : Vec F S1x1024x512 .f32) (x16 : Vec F S1536x512 .f32) (x17 : Vec F S1x512 .f32) : FVec F S1x1024x512 .f32 :=
  k1_pay2 (k1_pay17 (k1_pay12 (View.ld x0 w_S1x1024x1024)) (k1_pay13 (View.ld x1 w_S1x1024x512)) (View.ld x16 rTop) (View.ld x16 rBot) (View.ld x17 w_S1x512))
/-- The values stored at a point. -/
def vvV (x0 : Vec F S1x1024x1024 .f32) (x1 : Vec F S1x1024x512 .f32) (x18 : Vec F S1536x512 .f32) (x19 : Vec F S1x512 .f32) : FVec F S1x1024x512 .f32 :=
  k1_pay3 (k1_pay18 (k1_pay12 (View.ld x0 w_S1x1024x1024)) (k1_pay13 (View.ld x1 w_S1x1024x512)) (View.ld x18 rTop) (View.ld x18 rBot) (View.ld x19 w_S1x512))
/-- The result block, from the three scratch slots read. -/
def outV (z0 : Vec F S1x1x512 .f32) (z1 z2 : Vec F S1x1024x512 .f32) (x14 : Vec F S512x512 .f32) (x15 : Vec F S1x512 .f32) (x20 : Vec F S512x256 .f32) (x21 : Vec F S1x256 .f32) (x22 : Vec F S256x32 .f32) (x23 : Vec F S1x32 .f32) (x24 : Vec F S1x32 .f32) (x25 : Vec F S1x1 .f32) : FVec F S1x1x1024 .f32 :=
  k1_pay11 (k1_pay9 (k1_pay4 z1) (k1_pay5 z2) (k1_pay6 z0 (View.ld x14 w_S512x512) (View.ld x15 w_S1x512)) k1_pay7 k1_pay8 1#32 (View.ld x20 w_S512x256) (View.ld x21 w_S1x256) (View.ld x22 w_S256x32) (View.ld x23 w_S1x32)) (k1_pay10 (F := F)) (View.ld x24 w_S1x32) (View.ld x25 w_S1x1)
end Values

/-- One unmasked write through a rectangle reads as the payload laid over what was there. -/
theorem read_writes_one {κ : Kind} {sp : Space} {s : Shape} {e : EltTy} (v : View sig κ sp s e) (f : v.ty.Contents (Elt F))
    (r : Rect s) (w : r.shape.Idx → Elt F e) :
    v.read (Elt F) (v.writes (Elt F) f [⟨r, w⟩]) = r.overlay (v.read (Elt F) f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem r _ _ hy]
    rfl

/-- The result block is covered by its one store. -/
theorem cover_out (p0 : Vec F S1x1x1024 .f32) (y : S1x1x1024.Idx) :
    ∃ pc ∈ ([⟨w_S1x1x1024, p0⟩] : List (View.Piece (Elt F) S1x1x1024 .f32)), y ∈ pc.1.set :=
  View.cover_of_tiled [⟨w_S1x1x1024, p0⟩] S1x1x1024.size (by rfl) y

set_option maxHeartbeats 4000000 in
/-- The body's triple: with the input blocks at `x0 … x25`, the result block at anything and the three scratches at
    `s0`, `s1`, `s2`, it runs to the inputs as they were, the result block at `outV` of the slots read, and each scratch
    with its written slot at the point's own value. -/
theorem main_triple (c : Dev nD) (E : Set ℕ) (i : grid1.Coords) (arg1 : Memref sig .tc .vmem S1x1024x1024 .f32) (harg1 : arg1.IsWhole) (arg2 : Memref sig .tc .vmem S1x1024x512 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x1 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1 .f32) (harg14 : arg14.IsWhole) (arg15 : Memref sig .tc .vmem S512x512 .f32) (harg15 : arg15.IsWhole) (arg16 : Memref sig .tc .vmem S1x512 .f32) (harg16 : arg16.IsWhole) (arg17 : Memref sig .tc .vmem S1536x512 .f32) (harg17 : arg17.IsWhole) (arg18 : Memref sig .tc .vmem S1x512 .f32) (harg18 : arg18.IsWhole) (arg19 : Memref sig .tc .vmem S1536x512 .f32) (harg19 : arg19.IsWhole) (arg20 : Memref sig .tc .vmem S1x512 .f32) (harg20 : arg20.IsWhole) (arg21 : Memref sig .tc .vmem S512x256 .f32) (harg21 : arg21.IsWhole) (arg22 : Memref sig .tc .vmem S1x256 .f32) (harg22 : arg22.IsWhole) (arg23 : Memref sig .tc .vmem S256x32 .f32) (harg23 : arg23.IsWhole) (arg24 : Memref sig .tc .vmem S1x32 .f32) (harg24 : arg24.IsWhole) (arg25 : Memref sig .tc .vmem S1x32 .f32) (harg25 : arg25.IsWhole) (arg26 : Memref sig .tc .vmem S1x1 .f32) (harg26 : arg26.IsWhole) (arg27 : Memref sig .tc .vmem S1x1x1024 .f32) (harg27 : arg27.IsWhole) (arg28 : Memref sig .tc .vmem S2x1x512 .f32) (harg28 : arg28.IsWhole) (arg29 : Memref sig .tc .vmem S2x1024x512 .f32) (harg29 : arg29.IsWhole) (arg30 : Memref sig .tc .vmem S2x1024x512 .f32) (harg30 : arg30.IsWhole)
    (x0 : Vec F S1x1024x1024 .f32) (x1 : Vec F S1x1024x512 .f32) (x2 : Vec F S1024x256 .f32) (x3 : Vec F S1x256 .f32) (x4 : Vec F S256x32 .f32) (x5 : Vec F S1x32 .f32) (x6 : Vec F S1x32 .f32) (x7 : Vec F S1x1 .f32) (x8 : Vec F S1024x512 .f32) (x9 : Vec F S1x512 .f32) (x10 : Vec F S512x512 .f32) (x11 : Vec F S1x512 .f32) (x12 : Vec F S1x512 .f32) (x13 : Vec F S1x1 .f32) (x14 : Vec F S512x512 .f32) (x15 : Vec F S1x512 .f32) (x16 : Vec F S1536x512 .f32) (x17 : Vec F S1x512 .f32) (x18 : Vec F S1536x512 .f32) (x19 : Vec F S1x512 .f32) (x20 : Vec F S512x256 .f32) (x21 : Vec F S1x256 .f32) (x22 : Vec F S256x32 .f32) (x23 : Vec F S1x32 .f32) (x24 : Vec F S1x32 .f32) (x25 : Vec F S1x1 .f32) (s0 : Vec F S2x1x512 .f32) (s1 s2 : Vec F S2x1024x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ owns (c : Thread nD τ) arg28 fullShare s0 ∗ owns (c : Thread nD τ) arg29 fullShare s1 ∗ owns (c : Thread nD τ) arg30 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare (View.canon [⟨w_S1x1x1024, outV (View.ld s0 (rdC i)) (View.ld s1 (rdK i)) (View.ld s2 (rdK i)) x14 x15 x20 x21 x22 x23 x24 x25⟩]) ∗ owns (c : Thread nD τ) arg28 fullShare ((wrC i).overlay s0 (camV x0 x2 x3 x4 x5 x6 x7 x8 x9 x10 x11 x12 x13)) ∗ owns (c : Thread nD τ) arg29 fullShare ((wrK i).overlay s1 (kkV x0 x1 x16 x17)) ∗ owns (c : Thread nD τ) arg30 fullShare ((wrK i).overlay s2 (vvV x0 x1 x18 x19))) -∗ K ⟨⟩))
      ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc1__main_kernel_eq_skeleton]; unfold cc1__main_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%f27, %hf27, H27⟩, ⟨%f28, %hf28, H28⟩, ⟨%f29, %hf29, H29⟩, Hk⟩
  subst hf0 hf1 hf2 hf3 hf4 hf5 hf6 hf7 hf8 hf9 hf10 hf11 hf12 hf13 hf14 hf15 hf16 hf17 hf18 hf19 hf20 hf21 hf22 hf23 hf24 hf25 hf27 hf28 hf29
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists _; isplitr
    swap; · iexact H26
    ipureintro
    exact View.read_writes_eq_canon _ _ _ (cover_out _)
  isplitl [H27]
  · iexists _; isplitr
    swap; · iexact H27
    ipureintro
    exact read_writes_one _ _ _ _
  isplitl [H28]
  · iexists _; isplitr
    swap; · iexact H28
    ipureintro
    exact read_writes_one _ _ _ _
  iexists _; isplitr
  swap; · iexact H29
  ipureintro
  exact read_writes_one _ _ _ _

end Cert.KernelIdeal.Run
-- ==== Proof.IMain.lean ====
/- The main call (seventeen grid points): the block each input window holds at a point, the pipeline's proof data, the
   invariant that carries the two-slot scratches from one point to the next, and the body obligation. The first point
   reads slots nothing has written, so what it leaves in the result block is named only from the second point on; the
   result's array is written back from the second point on too. All at a parameter `V`, the contents of the buffers when
   the call is entered. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.IBody
public import Idealize.ShloMosaic.Lib.Pipeline.DatRel
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, for any proof data that leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, for any proof data that leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, for any proof data that leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, for any proof data that leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, for any proof data that leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, for any proof data that leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, for any proof data that leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every point, for any proof data that leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's staging buffer holds its block at every point, for any proof data that leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's staging buffer holds its block at every point, for any proof data that leaves the block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's staging buffer holds its block at every point, for any proof data that leaves the block in place. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's staging buffer holds its block at every point, for any proof data that leaves the block in place. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's staging buffer holds its block at every point, for any proof data that leaves the block in place. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's staging buffer holds its block at every point, for any proof data that leaves the block in place. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Input window 14's staging buffer holds its block at every point, for any proof data that leaves the block in place. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
/-- Input window 15's staging buffer holds its block at every point, for any proof data that leaves the block in place. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
/-- Input window 16's staging buffer holds its block at every point, for any proof data that leaves the block in place. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
/-- Input window 17's staging buffer holds its block at every point, for any proof data that leaves the block in place. -/
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
/-- Input window 18's staging buffer holds its block at every point, for any proof data that leaves the block in place. -/
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)
/-- Input window 19's staging buffer holds its block at every point, for any proof data that leaves the block in place. -/
theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)
/-- Input window 20's staging buffer holds its block at every point, for any proof data that leaves the block in place. -/
theorem before1_20_of {c : Dev nD} (dat : Dat τ (Elt F) Unit ℕ (UR sig nD τ) ℕ cfg1 c) (hA : dat.A 20 = V c (Pipeline.arrRef spec1 20))
    (hafter : ∀ t, dat.after 20 t = iblk1 V c 20 t) (t : Fin cfg1.N) (d) : dat.before 20 t d = iblk1 V c 20 t :=
  (dat.before_in_eq_fetched 20 rfl (fun _ => rfl) (fun _ _ _ => rfl) (fun t => by rw [hafter]; unfold Dat.blockOf iblk1; rw [hA]; try rfl) t d).trans
    (by unfold Dat.fetched Dat.blockOf iblk1; rw [hA]; try rfl)
/-- Input window 21's staging buffer holds its block at every point, for any proof data that leaves the block in place. -/
theorem before1_21_of {c : Dev nD} (dat : Dat τ (Elt F) Unit ℕ (UR sig nD τ) ℕ cfg1 c) (hA : dat.A 21 = V c (Pipeline.arrRef spec1 21))
    (hafter : ∀ t, dat.after 21 t = iblk1 V c 21 t) (t : Fin cfg1.N) (d) : dat.before 21 t d = iblk1 V c 21 t :=
  (dat.before_in_eq_fetched 21 rfl (fun _ => rfl) (fun _ _ _ => rfl) (fun t => by rw [hafter]; unfold Dat.blockOf iblk1; rw [hA]; try rfl) t d).trans
    (by unfold Dat.fetched Dat.blockOf iblk1; rw [hA]; try rfl)
/-- Input window 22's staging buffer holds its block at every point, for any proof data that leaves the block in place. -/
theorem before1_22_of {c : Dev nD} (dat : Dat τ (Elt F) Unit ℕ (UR sig nD τ) ℕ cfg1 c) (hA : dat.A 22 = V c (Pipeline.arrRef spec1 22))
    (hafter : ∀ t, dat.after 22 t = iblk1 V c 22 t) (t : Fin cfg1.N) (d) : dat.before 22 t d = iblk1 V c 22 t :=
  (dat.before_in_eq_fetched 22 rfl (fun _ => rfl) (fun _ _ _ => rfl) (fun t => by rw [hafter]; unfold Dat.blockOf iblk1; rw [hA]; try rfl) t d).trans
    (by unfold Dat.fetched Dat.blockOf iblk1; rw [hA]; try rfl)
/-- Input window 23's staging buffer holds its block at every point, for any proof data that leaves the block in place. -/
theorem before1_23_of {c : Dev nD} (dat : Dat τ (Elt F) Unit ℕ (UR sig nD τ) ℕ cfg1 c) (hA : dat.A 23 = V c (Pipeline.arrRef spec1 23))
    (hafter : ∀ t, dat.after 23 t = iblk1 V c 23 t) (t : Fin cfg1.N) (d) : dat.before 23 t d = iblk1 V c 23 t :=
  (dat.before_in_eq_fetched 23 rfl (fun _ => rfl) (fun _ _ _ => rfl) (fun t => by rw [hafter]; unfold Dat.blockOf iblk1; rw [hA]; try rfl) t d).trans
    (by unfold Dat.fetched Dat.blockOf iblk1; rw [hA]; try rfl)
/-- Input window 24's staging buffer holds its block at every point, for any proof data that leaves the block in place. -/
theorem before1_24_of {c : Dev nD} (dat : Dat τ (Elt F) Unit ℕ (UR sig nD τ) ℕ cfg1 c) (hA : dat.A 24 = V c (Pipeline.arrRef spec1 24))
    (hafter : ∀ t, dat.after 24 t = iblk1 V c 24 t) (t : Fin cfg1.N) (d) : dat.before 24 t d = iblk1 V c 24 t :=
  (dat.before_in_eq_fetched 24 rfl (fun _ => rfl) (fun _ _ _ => rfl) (fun t => by rw [hafter]; unfold Dat.blockOf iblk1; rw [hA]; try rfl) t d).trans
    (by unfold Dat.fetched Dat.blockOf iblk1; rw [hA]; try rfl)
/-- Input window 25's staging buffer holds its block at every point, for any proof data that leaves the block in place. -/
theorem before1_25_of {c : Dev nD} (dat : Dat τ (Elt F) Unit ℕ (UR sig nD τ) ℕ cfg1 c) (hA : dat.A 25 = V c (Pipeline.arrRef spec1 25))
    (hafter : ∀ t, dat.after 25 t = iblk1 V c 25 t) (t : Fin cfg1.N) (d) : dat.before 25 t d = iblk1 V c 25 t :=
  (dat.before_in_eq_fetched 25 rfl (fun _ => rfl) (fun _ _ _ => rfl) (fun t => by rw [hafter]; unfold Dat.blockOf iblk1; rw [hA]; try rfl) t d).trans
    (by unfold Dat.fetched Dat.blockOf iblk1; rw [hA]; try rfl)

/-! ## What a point leaves in the scratches, and the result block -/

/-- The pooled vector point `t` computes from its blocks, -/
def camAt (c : Dev nD) (t : Fin cfg1.N) : Vec F S1x1x512 .f32 := camV (iblk1 V c 0 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
/-- its keys, -/
def kkAt (c : Dev nD) (t : Fin cfg1.N) : Vec F S1x1024x512 .f32 := kkV (iblk1 V c 0 t) (iblk1 V c 1 t) (iblk1 V c 16 t) (iblk1 V c 17 t)
/-- and its values. -/
def vvAt (c : Dev nD) (t : Fin cfg1.N) : Vec F S1x1024x512 .f32 := vvV (iblk1 V c 0 t) (iblk1 V c 1 t) (iblk1 V c 18 t) (iblk1 V c 19 t)
/-- The point before `t` (the first point itself at the first). -/
def prevPt (t : Fin cfg1.N) : Fin cfg1.N := ⟨t.val - 1, Nat.lt_of_le_of_lt (Nat.sub_le _ _) t.isLt⟩
/-- The result block point `t` leaves, from what the point before it left in the scratches. -/
def outAt (c : Dev nD) (t : Fin cfg1.N) : Vec F S1x1x1024 .f32 :=
  View.canon [⟨w_S1x1x1024, outV (camAt V c (prevPt t)) (kkAt V c (prevPt t)) (vvAt V c (prevPt t)) (iblk1 V c 14 t) (iblk1 V c 15 t) (iblk1 V c 20 t) (iblk1 V c 21 t) (iblk1 V c 22 t) (iblk1 V c 23 t) (iblk1 V c 24 t) (iblk1 V c 25 t)⟩]

/-- The three scratches as memrefs. -/
abbrev scM0 : Memref sig .tc .vmem S2x1x512 .f32 := Memref.whole cc1_scratch0
abbrev scM1 : Memref sig .tc .vmem S2x1024x512 .f32 := Memref.whole cc1_scratch1
abbrev scM2 : Memref sig .tc .vmem S2x1024x512 .f32 := Memref.whole cc1_scratch2

/-- Before point `t` (and after the last) the scratches hold, in the slot the point before wrote, that point's values. -/
def Held (c : Dev nD) (t : Fin (cfg1.N + 1)) (s0 : Vec F S2x1x512 .f32) (s1 s2 : Vec F S2x1024x512 .f32) : Prop :=
  ∀ u : Fin cfg1.N, u.val + 1 = t.val → View.ld s0 (wrC (grid1.coords u)) = camAt V c u
    ∧ View.ld s1 (wrK (grid1.coords u)) = kkAt V c u ∧ View.ld s2 (wrK (grid1.coords u)) = vvAt V c u

/-- The scratches at some contents. -/
def anyScratch (c : Dev nD) : sProp 𝕄 :=
  iprop((∃ d, owns (c : Thread nD τ) scM0 fullShare d) ∗ (∃ d, owns (c : Thread nD τ) scM1 fullShare d) ∗ (∃ d, owns (c : Thread nD τ) scM2 fullShare d))

/-- The invariant: the scratches as `Held` says, and the way back from any scratches to the call's scoped buffers. -/
def Φ1 (c : Dev nD) (t : Fin (cfg1.N + 1)) : sProp 𝕄 :=
  iprop((∃ s0 s1 s2, ⌜Held V c t s0 s1 s2⌝ ∗ owns (c : Thread nD τ) scM0 fullShare s0 ∗ owns (c : Thread nD τ) scM1 fullShare s1 ∗ owns (c : Thread nD τ) scM2 fullShare s2)
    ∗ (anyScratch c -∗ Pipeline.ΦA spec1 c))

/-- The scoped buffers split into the scratches and the way back. -/
theorem split_scratch (c : Dev nD) : (Pipeline.ΦA spec1 c : sProp 𝕄) ⊢ iprop(anyScratch c ∗ (anyScratch c -∗ Pipeline.ΦA spec1 c)) := by
  unfold Pipeline.ΦA anyScratch; rw [scopedRest1_eq]; simp only [scM0, scM1, scM2, owns_whole]
  iintro ⟨⟨G0, G1, G2, G3, G4, G5, G6, G7, G8, G9, G10, G11, G12, G13, G14, G15, G16, G17, G18, G19, S0, S1, S2⟩, Hg⟩
  isplitl [S0 S1 S2]
  · isplitl [S0]; · iexact S0
    isplitl [S1]; · iexact S1
    iexact S2
  iintro ⟨S0, S1, S2⟩
  isplitr [Hg]
  · isplitl [G0]; (iexact G0); isplitl [G1]; (iexact G1); isplitl [G2]; (iexact G2); isplitl [G3]; (iexact G3); isplitl [G4]; (iexact G4); isplitl [G5]; (iexact G5); isplitl [G6]; (iexact G6); isplitl [G7]; (iexact G7); isplitl [G8]; (iexact G8); isplitl [G9]; (iexact G9); isplitl [G10]; (iexact G10); isplitl [G11]; (iexact G11); isplitl [G12]; (iexact G12); isplitl [G13]; (iexact G13); isplitl [G14]; (iexact G14); isplitl [G15]; (iexact G15); isplitl [G16]; (iexact G16); isplitl [G17]; (iexact G17); isplitl [G18]; (iexact G18); isplitl [G19]; (iexact G19)
    isplitl [S0]; · iexact S0
    isplitl [S1]; · iexact S1
    iexact S2
  iexact Hg

/-- Entering the call: the scoped buffers are the invariant before the first point. -/
theorem Φ1_in (c : Dev nD) : (Pipeline.ΦA spec1 c : sProp 𝕄) ⊢ Φ1 V c 0 := by
  refine (split_scratch c).trans ?_
  unfold Φ1 anyScratch
  iintro ⟨⟨⟨%d0, S0⟩, ⟨%d1, S1⟩, ⟨%d2, S2⟩⟩, Hw⟩
  isplitl [S0 S1 S2]
  · iexists d0; iexists d1; iexists d2
    isplitr
    · ipureintro; intro u hu; exact absurd hu (Nat.succ_ne_zero _)
    isplitl [S0]; · iexact S0
    isplitl [S1]; · iexact S1
    iexact S2
  iexact Hw

/-- Leaving it: the invariant gives the scoped buffers back. -/
theorem Φ1_out (c : Dev nD) (t : Fin (cfg1.N + 1)) : (Φ1 V c t : sProp 𝕄) ⊢ Pipeline.ΦA spec1 c := by
  unfold Φ1
  iintro ⟨⟨%d0, %d1, %d2, -, S0, S1, S2⟩, Hw⟩
  iapply Hw
  unfold anyScratch
  isplitl [S0]; · iexists d0; iexact S0
  isplitl [S1]; · iexists d1; iexact S1
  iexists d2; iexact S2

/-! ## The proof data -/

/-- The proof data of the main call: each input's buffer left at its block, the result's at `outAt`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => iblk1 V c 24 t
    | ⟨25, _⟩ => iblk1 V c 25 t
    | ⟨26, _⟩ => outAt V c t
    | ⟨_ + 27, h⟩ => absurd h (Nat.not_lt.2 (Nat.le_add_left _ _))
  Φ t := Φ1 V c t
  q _ := fullShare
  owed _ := 0

/-- The arrays are the entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = iblk1 V c 22 t := by dsimp only [dat1]
theorem after1_23 (c : Dev nD) (t : Fin cfg1.N) : (dat1 V c).after 23 t = iblk1 V c 23 t := by dsimp only [dat1]
theorem after1_24 (c : Dev nD) (t : Fin cfg1.N) : (dat1 V c).after 24 t = iblk1 V c 24 t := by dsimp only [dat1]
theorem after1_25 (c : Dev nD) (t : Fin cfg1.N) : (dat1 V c).after 25 t = iblk1 V c 25 t := by dsimp only [dat1]
theorem after1_26 (c : Dev nD) (t : Fin cfg1.N) : (dat1 V c).after 26 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d
theorem before1_20 (c : Dev nD) (t : Fin cfg1.N) (d) : (dat1 V c).before 20 t d = iblk1 V c 20 t :=
  before1_20_of V (dat1 V c) (A_eq1 V c 20) (after1_20 V c) t d
theorem before1_21 (c : Dev nD) (t : Fin cfg1.N) (d) : (dat1 V c).before 21 t d = iblk1 V c 21 t :=
  before1_21_of V (dat1 V c) (A_eq1 V c 21) (after1_21 V c) t d
theorem before1_22 (c : Dev nD) (t : Fin cfg1.N) (d) : (dat1 V c).before 22 t d = iblk1 V c 22 t :=
  before1_22_of V (dat1 V c) (A_eq1 V c 22) (after1_22 V c) t d
theorem before1_23 (c : Dev nD) (t : Fin cfg1.N) (d) : (dat1 V c).before 23 t d = iblk1 V c 23 t :=
  before1_23_of V (dat1 V c) (A_eq1 V c 23) (after1_23 V c) t d
theorem before1_24 (c : Dev nD) (t : Fin cfg1.N) (d) : (dat1 V c).before 24 t d = iblk1 V c 24 t :=
  before1_24_of V (dat1 V c) (A_eq1 V c 24) (after1_24 V c) t d
theorem before1_25 (c : Dev nD) (t : Fin cfg1.N) (d) : (dat1 V c).before 25 t d = iblk1 V c 25 t :=
  before1_25_of V (dat1 V c) (A_eq1 V c 25) (after1_25 V c) t d

/-- The window whose contents after the first point nothing names: the result's. -/
def fgt1 (w : Fin cfg1.W) : Bool := w.val == 26
/-- What is said of it: from the second point on it is `outAt`. -/
def Rl1 (c : Dev nD) (w : Fin cfg1.W) (t : Fin cfg1.N) (X : (cfg1.win w).block.Idx → Elt F (cfg1.win w).elt) : Prop :=
  t.val ≠ 0 → X = (dat1 V c).after w t

/-- The slot read at a point is the slot the point before wrote: the pooled-vector scratch, -/
theorem off1_eq : ∀ t u : Fin grid1.N, u.val + 1 = t.val → k1_off1 (grid1.coords t) = k1_off3 (grid1.coords u) := by
  decide
/-- and the key and value scratches. -/
theorem off2_eq : ∀ t u : Fin grid1.N, u.val + 1 = t.val → k1_off2 (grid1.coords t) = k1_off4 (grid1.coords u) := by
  decide

/-- Reading through unit rectangles at equal offsets gives the same block. -/
theorem ld_unit_congr {s : Shape} {e : EltTy} (X : s.Idx → Elt F e) (off off' size : Fin s.rank → Nat) (h h') (he : off = off') :
    (View.ld X (Rect.unit (s := s) off size h) : (Rect.unit (s := s) off size h).shape.Idx → Elt F e)
      = (View.ld X (Rect.unit (s := s) off' size h') : (Rect.unit (s := s) off' size h').shape.Idx → Elt F e) := by
  subst he; rfl

/-- Reading back the slot just written. -/
theorem ld_overlay {s : Shape} {e : EltTy} (r : Rect s) (X : s.Idx → Elt F e) (w : r.shape.Idx → Elt F e) :
    View.ld (r.overlay X w) r = w := by
  funext x; exact Rect.overlay_emb r X w x

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d))
    ∗ (∃ d, owns (c : Thread nD τ) (st1_25 t) fullShare ((dat1 V c).before 25 t d))
    ∗ (∃ Y, ⌜((dat1 V c).toRRel fgt1 (Rl1 V c)).Finds 26 t Y⌝ ∗ owns (c : Thread nD τ) (st1_26 t) fullShare Y))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t)
    ∗ owns (c : Thread nD τ) (st1_23 t) fullShare ((dat1 V c).after 23 t)
    ∗ owns (c : Thread nD τ) (st1_24 t) fullShare ((dat1 V c).after 24 t)
    ∗ owns (c : Thread nD τ) (st1_25 t) fullShare ((dat1 V c).after 25 t)
    ∗ (∃ X, ⌜Rl1 V c 26 t X⌝ ∗ owns (c : Thread nD τ) (st1_26 t) fullShare X))

/-- The scratches the body leaves are as the invariant says before the next point. -/
theorem held_succ (c : Dev nD) (t : Fin cfg1.N) (s0 : Vec F S2x1x512 .f32) (s1 s2 : Vec F S2x1024x512 .f32) :
    Held V c t.succ ((wrC (grid1.coords t)).overlay s0 (camAt V c t)) ((wrK (grid1.coords t)).overlay s1 (kkAt V c t))
      ((wrK (grid1.coords t)).overlay s2 (vvAt V c t)) := by
  intro u hu
  obtain rfl : u = t := Fin.ext (by simpa using hu)
  exact ⟨ld_overlay _ _ _, ld_overlay _ _ _, ld_overlay _ _ _⟩

/-- From the second point on the slots read hold the values of the point before. -/
theorem held_read (c : Dev nD) (t : Fin cfg1.N) (ht : t.val ≠ 0) (s0 : Vec F S2x1x512 .f32) (s1 s2 : Vec F S2x1024x512 .f32)
    (h : Held V c t.castSucc s0 s1 s2) :
    View.ld s0 (rdC (grid1.coords t)) = camAt V c (prevPt t) ∧ View.ld s1 (rdK (grid1.coords t)) = kkAt V c (prevPt t)
      ∧ View.ld s2 (rdK (grid1.coords t)) = vvAt V c (prevPt t) := by
  have hu : (prevPt t).val + 1 = t.val := by show t.val - 1 + 1 = t.val; omega
  obtain ⟨h0, h1, h2⟩ := h (prevPt t) hu
  refine ⟨?_, ?_, ?_⟩
  · exact (ld_unit_congr s0 _ _ _ _ _ (off1_eq t (prevPt t) hu)).trans h0
  · exact (ld_unit_congr s1 _ _ _ _ _ (off2_eq t (prevPt t) hu)).trans h1
  · exact (ld_unit_congr s2 _ _ _ _ _ (off2_eq t (prevPt t) hu)).trans h2

set_option maxHeartbeats 1000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23, before1_24, before1_25]
  rw [show (dat1 V c).Φ t.succ = Φ1 V c t.succ from rfl, show (dat1 V c).Φ t.castSucc = Φ1 V c t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25]
  unfold Φ1
  iintro ⟨⟨⟨%s0, %s1, %s2, %hs, S0, S1, S2⟩, Hw⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, -, H26⟩⟩
  iapply (main_triple c Set.univ (grid1.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) s0 s1 s2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [S0]; · iexact S0
  isplitl [S1]; · iexact S1
  isplitl [S2]; · iexact S2
  iintro ⟨H0, H1, H2, H3, H4, H5, H6, H7, H8, H9, H10, H11, H12, H13, H14, H15, H16, H17, H18, H19, H20, H21, H22, H23, H24, H25, H26, S0, S1, S2⟩
  isplitl [S0 S1 S2 Hw]
  · isplitl [S0 S1 S2]
    · iexists _; iexists _; iexists _
      isplitr
      swap
      · isplitl [S0]; · iexact S0
        isplitl [S1]; · iexact S1
        iexact S2
      ipureintro
      exact held_succ V c t s0 s1 s2
    iexact Hw
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexists _
  isplitr
  swap
  · iexact H26
  ipureintro
  intro ht
  obtain ⟨h0, h1, h2⟩ := held_read V c t ht s0 s1 s2 hs
  rw [after1_26]; unfold outAt
  rw [h0, h1, h2]

/-- The body table's row at point `t`'s slots. -/
theorem defs₀_row1 (t : Fin cfg1.N) :
    defs₀ (F := F) .tc cfg1.body (cfg1.bodyArgs t (cfg1.slots t)) = bodyAt1 t := by
  unfold defs₀; rw [Defs.onTc_tc]

set_option maxHeartbeats 4000000 in
/-- The body obligation, the result's window held to `Rl1`. -/
theorem body_obligation1 (c : Dev nD) :
    Pipeline.BodyObligationRel (dat1 (F := F) V c) (defs₀ (F := F)) Variants.none () Set.univ fgt1 (Rl1 V c) := fun t => by
  rw [bigSep_W1, bigSep_W1, defs₀_row1]
  exact triple_restated (sound_body1 V c t) rfl .rfl fun _ => .rfl

end Cert.KernelIdeal.Run
-- ==== Proof.IRun.lean ====
/- The run of the whole program: the buffer contents at every boundary of @main (three stretches of host operations and the
   two kernel calls), and the launch. `run_final` names every buffer's contents at the end. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.IFold
public import proofs.«01_k».proof.Proof.IMain
public import Idealize.ShloMosaic.Lib.Pipeline.DatRel
public import Idealize.ShloMosaic.Lib.Pipeline.ArrRel
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7, main_v8, main_v9, main_v10, main_v11, main_v12, main_v13, main_v14, main_v15, main_v16, main_v17]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v19]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ## The result's array: written back from the second point on, so its final contents are named -/

/-- The result window is not written back at the first point. -/
theorem flush26_ne : ∀ t : Fin cfg1.N, (cfg1.win 26).flush t = true → t.val ≠ 0 := by
  decide +kernel

/-- Under the relational data every array of the main call ends at what the exact data name. -/
theorem arraysAt1 (V : (c : Dev nD) → (b : Ref sig .tc) → Buf (Elt F) ((c : Thread nD τ).loc b)) (c : Dev nD) :
    (((dat1 V c).toRRel fgt1 (Rl1 V c)).arraysAt cfg1.N : sProp 𝕄) ⊢ (dat1 V c).arrays ((dat1 V c).arrAt · cfg1.N) := by
  unfold Pipeline.RDat.arraysAt Pipeline.Dat.arrays
  refine BI.bigSep_mono fun w _ => ?_
  change BIBase.Entails (PROP := sProp 𝕄) _ _
  iintro ⟨%G, %hG, H⟩
  have hG' : G = (dat1 V c).arrAt w cfg1.N := by
    by_cases hf : fgt1 w = true
    · obtain ⟨X, hX, hA⟩ := Pipeline.RDat.ArrAt.exists_exact hG
      have hw : w = 26 := Fin.ext (by simpa [fgt1] using hf)
      subst hw
      exact hA (dat1 V c).after fun u hu hfl => ((dat1 V c).toRRel_leaves hf (hX u hu hfl) (flush26_ne u hfl)).symm
    · have hf' : fgt1 w = false := by simpa using hf
      exact (((dat1 V c).toR.override_arrAt (ovr := fun w => match fgt1 w with | true => some (fun t _ X => Rl1 V c w t X) | false => none)
        (by simp only [hf']) cfg1.N G).trans ((dat1 V c).toR_arrAt_iff w cfg1.N G)).mp hG
  subst hG'
  iexact H

/-! ## The segments -/

/-- No prefetched table. -/
abbrev adm : (p : Fin 2) → (pcfgs (F := F) p).Adm := fun p => (cfgs p).toPCfg_adm
/-- Every call's exact proof data, at its entry contents, -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- and read relationally: the main call's result window held to `Rl1`. -/
def rdats : (p : Fin 2) → (c : Dev nD) → Pipeline.RDat τ (Elt F) Unit ℕ (UR sig nD τ) ℕ (Pipeline.pin (pcfgs (F := F)) adm p) c
  | ⟨0, _⟩ => fun c => (dat0 (V1 m ρ) c).toR
  | ⟨1, _⟩ => fun c => (dat1 (V3 m ρ) c).toRRel fgt1 (Rl1 (V3 m ρ) c)
abbrev 𝒱₀ : Variants := Variants.none
abbrev L : GSem nD τ sig → Finset Unit := fun _ => ∅
abbrev lv : GSem nD τ sig → Unit → ℕ := fun _ _ => 0
/-- What rides beside the buffers: the generator register and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Call 0 as a segment of @main, from the contents `W1` to the contents `W2`. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.RDat.arrays_of_unscopedBufs (p := 0) (pcfgs (F := F)) adm (rdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (BIBase.Entails.of_eq (show (Pipeline.ΦA spec0 c : sProp 𝕄) = (rdats m ρ 0 c).Φ 0 from rfl))
    unfold Pipeline.ΦA
    iintro ⟨Hp, -, Hr⟩
    isplitl [Hr]; · iexact Hr
    iexact Hp
  hout c := by
    rw [Pipeline.ownSems0_none]
    refine BIBase.Entails.trans (BIBase.Entails.of_eq (show (rdats m ρ 0 c).Φ (Fin.last _) = (Pipeline.ΦA spec0 c : sProp 𝕄) from rfl)) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    have hA : (rdats m ρ 0 c).arraysAt cfg0.N ⊢ (pdats m ρ 0 c).arrays ((pdats m ρ 0 c).arrAt · cfg0.N) := BIBase.Entails.of_eq ((dat0 (V1 m ρ) c).toR_arraysAt_eq cfg0.N)
    iintro ⟨Ha, HO, HY, Hrest⟩
    ihave Ha' := hA $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- Call 1 as a segment of @main, from the contents `W3` to the contents `W4`. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).toRRel
  hwaits := Pipeline.RDat.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.RDat.arrays_of_unscopedBufs (p := 1) (pcfgs (F := F)) adm (rdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Φ1_in (V3 m ρ) c)
    unfold Pipeline.ΦA
    iintro ⟨Hp, -, Hr⟩
    isplitl [Hr]; · iexact Hr
    iexact Hp
  hout c := by
    rw [Pipeline.ownSems0_none]
    refine BIBase.Entails.trans (Φ1_out (V3 m ρ) c (Fin.last _)) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    have hA : (rdats m ρ 1 c).arraysAt cfg1.N ⊢ (pdats m ρ 1 c).arrays ((pdats m ρ 1 c).arrAt · cfg1.N) := arraysAt1 (V3 m ρ) c
    iintro ⟨Ha, HO, HY, Hrest⟩
    ihave Ha' := hA $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

/-- @main's five segments in order. -/
abbrev segs : List (Pipeline.RDat.Seg (pcfgs (F := F)) adm (rdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments. -/
theorem main_run (c : Dev nD) : main (F := F) c = Pipeline.RDat.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- From any memory with zero counters every weakly fair execution of @main terminates without a fault, and at the end every
    unscoped buffer holds what `W5` names and every semaphore counter is zero. -/
theorem run_final : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.RDat.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- An argument array ends as launched. -/
theorem arg_end {s : MemSt nD τ sig (Elt F)} (c : Dev nD) (h : ∀ b ∈ Pipeline.ucRefs τ sig, s.mem (((c : Thread nD τ)).1, b) = W5 m ρ c b)
    (a : Ref sig .tc) (ha : a ∈ argRefs) (hs : ¬ (Proc.devRef .tc a : DevRef τ sig).isScoped) :
    s.mem ((c.tc : Thread nD τ).loc a) = m ((c.tc : Thread nD τ).loc a) :=
  (h _ (mem_uc a hs)).trans (W5_args m ρ c a ha)

/-- The frame claim at any reading: the arguments end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29))
      ∧ r.2.sem = fun _ => 0) := by
  refine (θ_run defs _ _).mono (fun r h => ⟨fun c => ?_, h.2⟩) (run_final m ρ)
  exact ⟨arg_end m ρ c (h.1 c) main_arg0 (by decide) (by decide),
    arg_end m ρ c (h.1 c) main_arg1 (by decide) (by decide),
    arg_end m ρ c (h.1 c) main_arg2 (by decide) (by decide),
    arg_end m ρ c (h.1 c) main_arg3 (by decide) (by decide),
    arg_end m ρ c (h.1 c) main_arg4 (by decide) (by decide),
    arg_end m ρ c (h.1 c) main_arg5 (by decide) (by decide),
    arg_end m ρ c (h.1 c) main_arg6 (by decide) (by decide),
    arg_end m ρ c (h.1 c) main_arg7 (by decide) (by decide),
    arg_end m ρ c (h.1 c) main_arg8 (by decide) (by decide),
    arg_end m ρ c (h.1 c) main_arg9 (by decide) (by decide),
    arg_end m ρ c (h.1 c) main_arg10 (by decide) (by decide),
    arg_end m ρ c (h.1 c) main_arg11 (by decide) (by decide),
    arg_end m ρ c (h.1 c) main_arg12 (by decide) (by decide),
    arg_end m ρ c (h.1 c) main_arg13 (by decide) (by decide),
    arg_end m ρ c (h.1 c) main_arg14 (by decide) (by decide),
    arg_end m ρ c (h.1 c) main_arg15 (by decide) (by decide),
    arg_end m ρ c (h.1 c) main_arg16 (by decide) (by decide),
    arg_end m ρ c (h.1 c) main_arg17 (by decide) (by decide),
    arg_end m ρ c (h.1 c) main_arg18 (by decide) (by decide),
    arg_end m ρ c (h.1 c) main_arg19 (by decide) (by decide),
    arg_end m ρ c (h.1 c) main_arg20 (by decide) (by decide),
    arg_end m ρ c (h.1 c) main_arg21 (by decide) (by decide),
    arg_end m ρ c (h.1 c) main_arg22 (by decide) (by decide),
    arg_end m ρ c (h.1 c) main_arg23 (by decide) (by decide),
    arg_end m ρ c (h.1 c) main_arg24 (by decide) (by decide),
    arg_end m ρ c (h.1 c) main_arg25 (by decide) (by decide),
    arg_end m ρ c (h.1 c) main_arg26 (by decide) (by decide),
    arg_end m ρ c (h.1 c) main_arg27 (by decide) (by decide),
    arg_end m ρ c (h.1 c) main_arg28 (by decide) (by decide),
    arg_end m ρ c (h.1 c) main_arg29 (by decide) (by decide)⟩

end Cert.KernelIdeal.Run
-- ==== Proof.Model.lean ====
module

public import Idealize.ShloMosaic.Lib.Pointwise
public import Idealize.ShloMosaic.Lib.IdealHost
public import Idealize.ShloMosaic.PureOps.Ideal.Laws

@[expose] public section

noncomputable section

/-! # The model of one batch

The network of one batch, over the real numbers but for the scoring layers and the end, whose weights and biases are any
extended reals, and the facts about real and extended real sums,
maxima and softmaxes the value proofs use. -/

namespace Cert.Model

open Idealize.ShloMosaic

/-- What one batch of the network reads: the visual and text rows and every weight and bias. Those of the scoring layers,
of the output projection and of the closing network are extended reals where nothing asks them to be finite. -/
structure Net where
  v : Fin 1024 → Fin 1024 → ℝ
  t : Fin 1024 → Fin 512 → ℝ
  w1 : Fin 1024 → Fin 256 → EReal
  b1 : Fin 256 → EReal
  w2 : Fin 256 → Fin 32 → EReal
  b2 : Fin 32 → EReal
  w3 : Fin 32 → EReal
  b3 : EReal
  fw : Fin 1024 → Fin 512 → ℝ
  fb : Fin 512 → ℝ
  gw : Fin 512 → Fin 512 → ℝ
  gb : Fin 512 → ℝ
  aw : Fin 512 → ℝ
  ab : ℝ
  qw : Fin 512 → Fin 512 → ℝ
  qb : Fin 512 → ℝ
  kw : Fin 1536 → Fin 512 → ℝ
  kb : Fin 512 → ℝ
  vw : Fin 1536 → Fin 512 → ℝ
  vb : Fin 512 → ℝ
  iw : Fin 512 → Fin 1536 → ℝ
  ib : Fin 1536 → ℝ
  ow : Fin 512 → Fin 512 → ℝ
  ob : Fin 512 → EReal
  p1 : Fin 512 → Fin 256 → ℝ
  c1 : Fin 256 → EReal
  p2 : Fin 256 → Fin 32 → EReal
  c2 : Fin 32 → EReal
  p3 : Fin 32 → EReal
  c3 : EReal

namespace Net

variable (N : Net)

/-- Row `k` of the upper 1024 rows of a 1536-row weight. -/
abbrev up (k : Fin 1024) : Fin 1536 := ⟨k.val, by omega⟩
/-- Row `k` of the lower 512 rows of a 1536-row weight. -/
abbrev dn (k : Fin 512) : Fin 1536 := ⟨1024 + k.val, by omega⟩
/-- Column `j` of the query third of the in-projection. -/
abbrev colQ (j : Fin 512) : Fin 1536 := ⟨j.val, by omega⟩
/-- Column `j` of the key third of the in-projection. -/
abbrev colK (j : Fin 512) : Fin 1536 := ⟨512 + j.val, by omega⟩
/-- Column `j` of the value third of the in-projection. -/
abbrev colV (j : Fin 512) : Fin 1536 := ⟨1024 + j.val, by omega⟩
/-- Lane `d` of head `h`. -/
abbrev lane (h : Fin 4) (d : Fin 128) : Fin 512 := ⟨h.val * 128 + d.val, by omega⟩
/-- The head of lane `e`. -/
abbrev head (e : Fin 512) : Fin 4 := ⟨e.val / 128, by omega⟩

def h1 (s : Fin 1024) (e : Fin 256) : EReal := max (∑ k, (N.v s k : EReal) * N.w1 k e + N.b1 e) 0
def h2 (s : Fin 1024) (e : Fin 32) : EReal := max (∑ k, N.h1 s k * N.w2 k e + N.b2 e) 0
/-- The score of row `s`, as an extended real. -/
def preScore (s : Fin 1024) : EReal := ∑ k, N.h2 s k * N.w3 k + N.b3
/-- The score of row `s`. -/
def score (s : Fin 1024) : ℝ := (N.preScore s).toReal
def tt (s : Fin 1024) (e : Fin 512) : ℝ := max (∑ k, N.v s k * N.fw k e + N.fb e) 0
def cc (s : Fin 1024) (e : Fin 512) : ℝ := max (∑ k, N.tt s k * N.gw k e + N.gb e) 0
/-- The pooling logit of row `s`. -/
def lg (s : Fin 1024) : ℝ := ∑ k, N.cc s k * N.aw k + N.ab
/-- The softmax-weighted mean of the features of the rows of `T`. -/
def cam (T : Finset (Fin 1024)) (e : Fin 512) : ℝ :=
  ∑ s ∈ T, Real.exp (N.lg s) / (∑ r ∈ T, Real.exp (N.lg r)) * N.cc s e
/-- The query of the rows `T`. -/
def q (T : Finset (Fin 1024)) (e : Fin 512) : ℝ :=
  ∑ j, (∑ k, N.cam T k * N.qw k j + N.qb j) * N.iw j (colQ e) + N.ib (colQ e)
def kk0 (s : Fin 1024) (j : Fin 512) : ℝ :=
  (∑ k, N.v s k * N.kw (up k) j + ∑ k, N.t s k * N.kw (dn k) j) + N.kb j
def vv0 (s : Fin 1024) (j : Fin 512) : ℝ :=
  (∑ k, N.v s k * N.vw (up k) j + ∑ k, N.t s k * N.vw (dn k) j) + N.vb j
def kk (s : Fin 1024) (e : Fin 512) : ℝ := ∑ j, N.kk0 s j * N.iw j (colK e) + N.ib (colK e)
def vv (s : Fin 1024) (e : Fin 512) : ℝ := ∑ j, N.vv0 s j * N.iw j (colV e) + N.ib (colV e)
/-- The attention logit of head `h` at row `s`. -/
def al (T : Finset (Fin 1024)) (h : Fin 4) (s : Fin 1024) : ℝ :=
  (∑ d, N.q T (lane h d) * N.kk s (lane h d)) * (1 / Real.sqrt 128)
def prob (T : Finset (Fin 1024)) (h : Fin 4) (s : Fin 1024) : ℝ :=
  Real.exp (N.al T h s) / ∑ r, Real.exp (N.al T h r)
def ctx (T : Finset (Fin 1024)) (e : Fin 512) : ℝ := ∑ s, N.prob T (head e) s * N.vv s e
def at0 (T : Finset (Fin 1024)) (e : Fin 512) : EReal := ((∑ k, N.ctx T k * N.ow k e : ℝ) : EReal) + N.ob e
def g1 (T : Finset (Fin 1024)) (e : Fin 256) : EReal := max (∑ k, N.at0 T k * (N.p1 k e : EReal) + N.c1 e) 0
def g2 (T : Finset (Fin 1024)) (e : Fin 32) : EReal := max (∑ k, N.g1 T k * N.p2 k e + N.c2 e) 0
/-- The result of the batch, when the pooled rows are `T`. -/
def out (T : Finset (Fin 1024)) : EReal := ∑ k, N.g2 T k * N.p3 k + N.c3

end Net

/-- The thirty argument arrays read as the networks `N b` of the sixteen batches. -/
structure Entries (x0 : FVec Ideal ⟨3, ![16, 1024, 1024]⟩ .f32) (x1 : FVec Ideal ⟨3, ![16, 1024, 512]⟩ .f32)
    (x2 : FVec Ideal ⟨2, ![1024, 256]⟩ .f32) (x3 : FVec Ideal ⟨1, ![256]⟩ .f32) (x4 : FVec Ideal ⟨2, ![256, 32]⟩ .f32)
    (x5 : FVec Ideal ⟨1, ![32]⟩ .f32) (x6 : FVec Ideal ⟨2, ![32, 1]⟩ .f32) (x7 : FVec Ideal ⟨1, ![1]⟩ .f32)
    (x8 : FVec Ideal ⟨2, ![1024, 512]⟩ .f32) (x9 : FVec Ideal ⟨1, ![512]⟩ .f32) (x10 : FVec Ideal ⟨2, ![512, 512]⟩ .f32)
    (x11 : FVec Ideal ⟨1, ![512]⟩ .f32) (x12 : FVec Ideal ⟨2, ![512, 1]⟩ .f32) (x13 : FVec Ideal ⟨1, ![1]⟩ .f32)
    (x14 : FVec Ideal ⟨2, ![512, 512]⟩ .f32) (x15 : FVec Ideal ⟨1, ![512]⟩ .f32) (x16 : FVec Ideal ⟨2, ![1536, 512]⟩ .f32)
    (x17 : FVec Ideal ⟨1, ![512]⟩ .f32) (x18 : FVec Ideal ⟨2, ![1536, 512]⟩ .f32) (x19 : FVec Ideal ⟨1, ![512]⟩ .f32)
    (x20 : FVec Ideal ⟨2, ![512, 1536]⟩ .f32) (x21 : FVec Ideal ⟨1, ![1536]⟩ .f32) (x22 : FVec Ideal ⟨2, ![512, 512]⟩ .f32)
    (x23 : FVec Ideal ⟨1, ![512]⟩ .f32) (x24 : FVec Ideal ⟨2, ![512, 256]⟩ .f32) (x25 : FVec Ideal ⟨1, ![256]⟩ .f32)
    (x26 : FVec Ideal ⟨2, ![256, 32]⟩ .f32) (x27 : FVec Ideal ⟨1, ![32]⟩ .f32) (x28 : FVec Ideal ⟨2, ![32, 1]⟩ .f32)
    (x29 : FVec Ideal ⟨1, ![1]⟩ .f32) (N : Fin 16 → Net) : Prop where
  h0 : ∀ b i j, x0 (ix3 b i j) = ((N b).v i j : EReal)
  h1 : ∀ b i j, x1 (ix3 b i j) = ((N b).t i j : EReal)
  h2 : ∀ b i j, x2 (ix2 i j) = ((N b).w1 i j : EReal)
  h3 : ∀ b i, x3 (ix1 i) = ((N b).b1 i : EReal)
  h4 : ∀ b i j, x4 (ix2 i j) = ((N b).w2 i j : EReal)
  h5 : ∀ b i, x5 (ix1 i) = ((N b).b2 i : EReal)
  h6 : ∀ b i j, x6 (ix2 i j) = ((N b).w3 i : EReal)
  h7 : ∀ b i, x7 (ix1 i) = ((N b).b3 : EReal)
  h8 : ∀ b i j, x8 (ix2 i j) = ((N b).fw i j : EReal)
  h9 : ∀ b i, x9 (ix1 i) = ((N b).fb i : EReal)
  h10 : ∀ b i j, x10 (ix2 i j) = ((N b).gw i j : EReal)
  h11 : ∀ b i, x11 (ix1 i) = ((N b).gb i : EReal)
  h12 : ∀ b i j, x12 (ix2 i j) = ((N b).aw i : EReal)
  h13 : ∀ b i, x13 (ix1 i) = ((N b).ab : EReal)
  h14 : ∀ b i j, x14 (ix2 i j) = ((N b).qw i j : EReal)
  h15 : ∀ b i, x15 (ix1 i) = ((N b).qb i : EReal)
  h16 : ∀ b i j, x16 (ix2 i j) = ((N b).kw i j : EReal)
  h17 : ∀ b i, x17 (ix1 i) = ((N b).kb i : EReal)
  h18 : ∀ b i j, x18 (ix2 i j) = ((N b).vw i j : EReal)
  h19 : ∀ b i, x19 (ix1 i) = ((N b).vb i : EReal)
  h20 : ∀ b i j, x20 (ix2 i j) = ((N b).iw i j : EReal)
  h21 : ∀ b i, x21 (ix1 i) = ((N b).ib i : EReal)
  h22 : ∀ b i j, x22 (ix2 i j) = ((N b).ow i j : EReal)
  h23 : ∀ b i, x23 (ix1 i) = ((N b).ob i : EReal)
  h24 : ∀ b i j, x24 (ix2 i j) = ((N b).p1 i j : EReal)
  h25 : ∀ b i, x25 (ix1 i) = ((N b).c1 i : EReal)
  h26 : ∀ b i j, x26 (ix2 i j) = ((N b).p2 i j : EReal)
  h27 : ∀ b i, x27 (ix1 i) = ((N b).c2 i : EReal)
  h28 : ∀ b i j, x28 (ix2 i j) = ((N b).p3 i : EReal)
  h29 : ∀ b i, x29 (ix1 i) = ((N b).c3 : EReal)

/-- The thirty argument arrays read as the networks of the sixteen batches, and every score of these is a real number. -/
structure Reads (x0 : FVec Ideal ⟨3, ![16, 1024, 1024]⟩ .f32) (x1 : FVec Ideal ⟨3, ![16, 1024, 512]⟩ .f32)
    (x2 : FVec Ideal ⟨2, ![1024, 256]⟩ .f32) (x3 : FVec Ideal ⟨1, ![256]⟩ .f32) (x4 : FVec Ideal ⟨2, ![256, 32]⟩ .f32)
    (x5 : FVec Ideal ⟨1, ![32]⟩ .f32) (x6 : FVec Ideal ⟨2, ![32, 1]⟩ .f32) (x7 : FVec Ideal ⟨1, ![1]⟩ .f32)
    (x8 : FVec Ideal ⟨2, ![1024, 512]⟩ .f32) (x9 : FVec Ideal ⟨1, ![512]⟩ .f32) (x10 : FVec Ideal ⟨2, ![512, 512]⟩ .f32)
    (x11 : FVec Ideal ⟨1, ![512]⟩ .f32) (x12 : FVec Ideal ⟨2, ![512, 1]⟩ .f32) (x13 : FVec Ideal ⟨1, ![1]⟩ .f32)
    (x14 : FVec Ideal ⟨2, ![512, 512]⟩ .f32) (x15 : FVec Ideal ⟨1, ![512]⟩ .f32) (x16 : FVec Ideal ⟨2, ![1536, 512]⟩ .f32)
    (x17 : FVec Ideal ⟨1, ![512]⟩ .f32) (x18 : FVec Ideal ⟨2, ![1536, 512]⟩ .f32) (x19 : FVec Ideal ⟨1, ![512]⟩ .f32)
    (x20 : FVec Ideal ⟨2, ![512, 1536]⟩ .f32) (x21 : FVec Ideal ⟨1, ![1536]⟩ .f32) (x22 : FVec Ideal ⟨2, ![512, 512]⟩ .f32)
    (x23 : FVec Ideal ⟨1, ![512]⟩ .f32) (x24 : FVec Ideal ⟨2, ![512, 256]⟩ .f32) (x25 : FVec Ideal ⟨1, ![256]⟩ .f32)
    (x26 : FVec Ideal ⟨2, ![256, 32]⟩ .f32) (x27 : FVec Ideal ⟨1, ![32]⟩ .f32) (x28 : FVec Ideal ⟨2, ![32, 1]⟩ .f32)
    (x29 : FVec Ideal ⟨1, ![1]⟩ .f32) (N : Fin 16 → Net) : Prop
    extends Entries x0 x1 x2 x3 x4 x5 x6 x7 x8 x9 x10 x11 x12 x13 x14 x15 x16 x17 x18 x19 x20 x21 x22 x23 x24 x25 x26 x27 x28 x29 N where
  hs : ∀ b s, (N b).preScore s = ((N b).score s : EReal)

/-- A finite sum of reals, as an extended real. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two reals, as an extended real. -/
theorem coe_max (x y : ℝ) : ((max x y : ℝ) : EReal) = max (x : EReal) (y : EReal) :=
  (EReal.coe_strictMono.monotone.map_max)

/-- The running maximum from `⊥` of values that are real or `⊥`, one of them real, is real. -/
theorem fold_max_real {n : Nat} (p : Fin n → Prop) [DecidablePred p] (l : Fin n → ℝ) (L : Fin n → EReal)
    (hL : ∀ k, L k = if p k then (l k : EReal) else ⊥) (k0 : Fin n) (hk0 : p k0) :
    ∃ m : ℝ, Finset.univ.fold max ⊥ L = (m : EReal) := by
  have h1 : Finset.univ.fold max ⊥ L ≠ ⊥ := by
    have : (l k0 : EReal) ≤ Finset.univ.fold max ⊥ L :=
      Finset.le_fold_max _ |>.mpr (Or.inr ⟨k0, Finset.mem_univ _, by rw [hL, if_pos hk0]⟩)
    intro h
    rw [h] at this
    exact absurd (le_bot_iff.mp this) (EReal.coe_ne_bot _)
  have h2 : Finset.univ.fold max ⊥ L ≠ ⊤ := by
    have : Finset.univ.fold max ⊥ L < ⊤ := by
      rw [Finset.fold_max_lt]
      refine ⟨bot_lt_top, fun k _ => ?_⟩
      rw [hL]
      split
      · exact EReal.coe_lt_top _
      · exact bot_lt_top
    exact ne_of_lt this
  exact ⟨_, (EReal.coe_toReal h2 h1).symm⟩

/-- The running maximum from `⊥` of real values is an upper bound and one of them. -/
theorem fold_max_coe {n : Nat} (l : Fin n → ℝ) (k0 : Fin n) :
    ∃ m : ℝ, Finset.univ.fold max ⊥ (fun k => (l k : EReal)) = (m : EReal)
      ∧ (∀ k, l k ≤ m) ∧ ∃ k, m = l k := by
  obtain ⟨k, _, hk⟩ := Finset.exists_max_image Finset.univ l ⟨k0, Finset.mem_univ _⟩
  refine ⟨l k, le_antisymm ?_ ?_, fun j => hk j (Finset.mem_univ _), k, rfl⟩
  · rw [Finset.fold_max_le]
    exact ⟨bot_le, fun j _ => EReal.coe_le_coe_iff.mpr (hk j (Finset.mem_univ _))⟩
  · exact (Finset.le_fold_max _).mpr (Or.inr ⟨k, Finset.mem_univ _, le_rfl⟩)

/-- The running minimum from `⊤` of real values is a lower bound and one of them. -/
theorem fold_min_coe {n : Nat} (l : Fin n → ℝ) (k0 : Fin n) :
    ∃ m : ℝ, Finset.univ.fold min ⊤ (fun k => (l k : EReal)) = (m : EReal)
      ∧ (∀ k, m ≤ l k) ∧ ∃ k, m = l k := by
  obtain ⟨k, _, hk⟩ := Finset.exists_min_image Finset.univ l ⟨k0, Finset.mem_univ _⟩
  refine ⟨l k, le_antisymm ?_ ?_, fun j => hk j (Finset.mem_univ _), k, rfl⟩
  · exact (Finset.fold_min_le _).mpr (Or.inr ⟨k, Finset.mem_univ _, le_rfl⟩)
  · rw [Finset.le_fold_min]
    exact ⟨le_top, fun j _ => EReal.coe_le_coe_iff.mpr (hk j (Finset.mem_univ _))⟩

/-- The exponential of a logit that is real or `⊥`, shifted by a real. -/
theorem exp_shift {n : Nat} (p : Fin n → Prop) [DecidablePred p] (l : Fin n → ℝ) (L : Fin n → EReal)
    (hL : ∀ k, L k = if p k then (l k : EReal) else ⊥) (m : ℝ) (k : Fin n) :
    Ideal.exp (L k - (m : EReal)) = ((if p k then Real.exp (l k - m) else 0 : ℝ) : EReal) := by
  rw [hL]
  split
  · rw [← EReal.coe_sub, Ideal.exp_coe]
  · rw [EReal.bot_sub, Ideal.exp_bot]; rfl

/-- A softmax does not change when its logits are shifted. -/
theorem softmax_shift {n : Nat} (p : Fin n → Prop) [DecidablePred p] (l : Fin n → ℝ) (m : ℝ) (k : Fin n) :
    (if p k then Real.exp (l k - m) else 0) * (1 / ∑ j, if p j then Real.exp (l j - m) else 0)
      = if p k then Real.exp (l k) / ∑ j with p j, Real.exp (l j) else 0 := by
  have hs : (∑ j, if p j then Real.exp (l j - m) else 0)
      = (∑ j with p j, Real.exp (l j)) * Real.exp (-m) := by
    rw [← Finset.sum_filter, Finset.sum_mul]
    refine Finset.sum_congr rfl fun j _ => ?_
    rw [sub_eq_add_neg, Real.exp_add]
  rw [hs]
  split
  · rw [sub_eq_add_neg, Real.exp_add, mul_one_div, mul_div_mul_right _ _ (Real.exp_ne_zero _)]
  · simp

/-- A softmax over logits that are real (where `p` holds) or `⊥`, with the maximum taken out, is the
plain softmax over the rows where `p` holds. -/
theorem softmax_masked {n : Nat} (p : Fin n → Prop) [DecidablePred p] (l : Fin n → ℝ) (L : Fin n → EReal)
    (hL : ∀ k, L k = if p k then (l k : EReal) else ⊥) (k0 : Fin n) (hk0 : p k0) (k : Fin n) :
    Ideal.div (Ideal.exp (L k - Finset.univ.fold max ⊥ L))
        (∑ j, Ideal.exp (L j - Finset.univ.fold max ⊥ L))
      = ((if p k then Real.exp (l k) / ∑ j with p j, Real.exp (l j) else 0 : ℝ) : EReal) := by
  obtain ⟨m, hm⟩ := fold_max_real p l L hL k0 hk0
  rw [hm]
  simp only [exp_shift p l L hL m]
  rw [← coe_sum, Ideal.div_coe, ← EReal.coe_mul, softmax_shift]
  have : 0 < ∑ j, if p j then Real.exp (l j - m) else 0 := by
    refine Finset.sum_pos' (fun j _ => ?_) ⟨k0, Finset.mem_univ _, ?_⟩
    · split
      · exact (Real.exp_pos _).le
      · exact le_rfl
    · rw [if_pos hk0]; exact Real.exp_pos _
  exact this.ne'

/-- A softmax over real logits, with the maximum taken out, is the plain softmax. -/
theorem softmax_coe {n : Nat} (l : Fin n → ℝ) (k : Fin n) :
    Ideal.div (Ideal.exp ((l k : EReal) - Finset.univ.fold max ⊥ fun j => (l j : EReal)))
        (∑ i, Ideal.exp ((l i : EReal) - Finset.univ.fold max ⊥ fun j => (l j : EReal)))
      = ((Real.exp (l k) / ∑ j, Real.exp (l j) : ℝ) : EReal) := by
  have h := softmax_masked (fun _ => True) l (fun j => (l j : EReal)) (fun k => by simp) k trivial k
  simpa using h

/-- The running maximum from `⊥` of values that are real where `p` holds and `⊥` elsewhere. -/
theorem fold_max_masked {n : Nat} (p : Fin n → Bool) (l : Fin n → ℝ) (k0 : Fin n) (hk0 : p k0 = true) :
    ∃ m : ℝ, Finset.univ.fold max ⊥ (fun k => if p k = true then (l k : EReal) else ⊥) = (m : EReal)
      ∧ (∀ k, p k = true → l k ≤ m) ∧ ∃ k, p k = true ∧ m = l k := by
  obtain ⟨k, hk, hm⟩ := Finset.exists_max_image (Finset.univ.filter fun k => p k = true) l ⟨k0, by simp [hk0]⟩
  have hk : p k = true := by simpa using hk
  have hm : ∀ j, p j = true → l j ≤ l k := fun j hj => hm j (by simp [hj])
  refine ⟨l k, le_antisymm ?_ ?_, hm, k, hk, rfl⟩
  · rw [Finset.fold_max_le]
    refine ⟨bot_le, fun j _ => ?_⟩
    split
    · exact EReal.coe_le_coe_iff.mpr (hm j ‹_›)
    · exact bot_le
  · exact (Finset.le_fold_max _).mpr (Or.inr ⟨k, Finset.mem_univ _, by rw [if_pos hk]⟩)

/-- The minimum of a real and the running minimum from `⊤` of values that are `⊤` where `p` holds and real
elsewhere. -/
theorem fold_min_masked {n : Nat} (p : Fin n → Bool) (l : Fin n → ℝ) (h : ℝ) :
    ∃ m : ℝ, min (Finset.univ.fold min ⊤ fun k => if p k = true then ⊤ else (l k : EReal)) (h : EReal) = (m : EReal)
      ∧ m ≤ h ∧ (∀ k, p k = false → m ≤ l k) ∧ (m = h ∨ ∃ k, p k = false ∧ m = l k) := by
  by_cases he : ∃ k, p k = false
  · obtain ⟨k0, hk0⟩ := he
    obtain ⟨k, hk, hm⟩ := Finset.exists_min_image (Finset.univ.filter fun k => p k = false) l ⟨k0, by simp [hk0]⟩
    have hk : p k = false := by simpa using hk
    have hm : ∀ j, p j = false → l k ≤ l j := fun j hj => hm j (by simp [hj])
    have hf : (Finset.univ.fold min ⊤ fun k => if p k = true then ⊤ else (l k : EReal)) = (l k : EReal) := by
      refine le_antisymm ?_ ?_
      · exact (Finset.fold_min_le _).mpr (Or.inr ⟨k, Finset.mem_univ _, by rw [if_neg (by simp [hk])]⟩)
      · rw [Finset.le_fold_min]
        refine ⟨le_top, fun j _ => ?_⟩
        split
        · exact le_top
        · exact EReal.coe_le_coe_iff.mpr (hm j (by simpa using ‹¬ p j = true›))
    refine ⟨min (l k) h, by rw [hf]; exact (EReal.coe_strictMono.monotone.map_min).symm, min_le_right _ _,
      fun j hj => (min_le_left _ _).trans (hm j hj), ?_⟩
    rcases min_choice (l k) h with h1 | h1
    · exact Or.inr ⟨k, hk, h1⟩
    · exact Or.inl h1
  · have hall : ∀ k, p k = true := fun k => by
      by_contra hc
      exact he ⟨k, by simpa using hc⟩
    refine ⟨h, ?_, le_rfl, fun k hk => absurd (hall k) (by simp [hk]), Or.inl rfl⟩
    rw [min_eq_right]
    rw [Finset.le_fold_min]
    refine ⟨le_top, fun j _ => ?_⟩
    rw [if_pos (hall j)]
    exact le_top

/-! ## The constants -/

theorem bits_neg_inf : Ideal.ofBits .f32 4286578688#32 = ⊥ := by simp [Ideal.ofBits, Ideal.ieee]
theorem bits_inf : Ideal.ofBits .f32 2139095040#32 = ⊤ := by simp [Ideal.ofBits, Ideal.ieee]
theorem bits_eighth : Ideal.ofBits .f32 1040187392#32 = ((1 / 8 : ℝ) : EReal) := by
  simp [Ideal.ofBits, Ideal.ieee, -EReal.coe_mul]; norm_num
theorem bits_102 : Ideal.ofBits .f32 1120665600#32 = ((102 : ℝ) : EReal) := by
  simp [Ideal.ofBits, Ideal.ieee, -EReal.coe_mul]; norm_num
theorem bits_128 : Ideal.ofBits .f32 1124073472#32 = ((128 : ℝ) : EReal) := by
  simp [Ideal.ofBits, Ideal.ieee, -EReal.coe_mul]; norm_num

/-! ## One round of the bisection -/

/-- How many scores reach `x`. -/
def cnt (σ : Fin 1024 → ℝ) (x : ℝ) : Nat := (Finset.univ.filter fun s => x ≤ σ s).card

theorem cnt_anti (σ : Fin 1024 → ℝ) {x y : ℝ} (h : x ≤ y) : cnt σ y ≤ cnt σ x :=
  Finset.card_le_card fun s hs => by
    simp only [Finset.mem_filter, Finset.mem_univ, true_and] at hs ⊢
    exact h.trans hs

/-- What a round keeps: 102 scores reach the lower end, and the upper end bounds every score or fewer than
102 scores reach it. -/
def Inv (σ : Fin 1024 → ℝ) (l h : ℝ) : Prop := 102 ≤ cnt σ l ∧ ((∀ s, σ s ≤ h) ∨ cnt σ h < 102)

theorem Inv.le {σ : Fin 1024 → ℝ} {l h : ℝ} (H : Inv σ l h) : l ≤ h := by
  rcases H.2 with h1 | h1
  · have : 0 < cnt σ l := by have := H.1; omega
    obtain ⟨s, hs⟩ := Finset.card_pos.mp this
    simp only [Finset.mem_filter, Finset.mem_univ, true_and] at hs
    exact hs.trans (h1 s)
  · by_contra hc
    have := cnt_anti σ (le_of_lt (not_le.mp hc))
    have := H.1
    omega

/-- The round's new ends keep the invariant, and their distance is at most an eighth. -/
theorem round {σ : Fin 1024 → ℝ} {l h l' h' : ℝ} (H : Inv σ l h) (t : Fin 8 → ℝ)
    (ht : ∀ i, t i = l + (h - l) * ((i.val : ℝ) / 8))
    (hl : ∀ i, 102 ≤ cnt σ (t i) → t i ≤ l') (hl' : ∃ i, 102 ≤ cnt σ (t i) ∧ l' = t i)
    (hh0 : h' ≤ h) (hh : ∀ i, ¬ 102 ≤ cnt σ (t i) → h' ≤ t i)
    (hh' : h' = h ∨ ∃ i, ¬ 102 ≤ cnt σ (t i) ∧ h' = t i) :
    Inv σ l' h' ∧ h' - l' ≤ (h - l) / 8 := by
  obtain ⟨i, hi, rfl⟩ := hl'
  have hlh := H.le
  refine ⟨⟨hi, ?_⟩, ?_⟩
  · rcases hh' with rfl | ⟨j, hj, rfl⟩
    · exact H.2
    · exact Or.inr (not_le.mp hj)
  · rcases eq_or_lt_of_le hlh with he | hlt
    · have : t i = l := by rw [ht, ← he]; ring
      rw [this, ← he]
      rw [← he] at hh0
      linarith
    by_cases h7 : i.val = 7
    · have : t i = l + (h - l) * (7 / 8) := by rw [ht, h7]; norm_num
      rw [this]; linarith
    · have hlt8 : i.val + 1 < 8 := by omega
      have hn : ¬ 102 ≤ cnt σ (t ⟨i.val + 1, hlt8⟩) := by
        intro hc
        have h1 := hl _ hc
        rw [ht, ht i] at h1
        push_cast at h1
        nlinarith
      have h2 := hh _ hn
      rw [ht] at h2
      rw [ht i]
      push_cast at h2
      linarith

/-- When the ends of the bisection are closer than the gap below the 102nd largest score, the scores that
reach the lower end are the 102 largest. -/
theorem selected {σ : Fin 1024 → ℝ} {l h : ℝ} (H : Inv σ l h) (π : Fin 1024 → Fin 1024) (hπ : Function.Injective π)
    (hdesc : ∀ i j : Fin 1024, i < j → σ (π j) ≤ σ (π i))
    (hgap : h - l < σ (π ⟨101, by omega⟩) - σ (π ⟨102, by omega⟩)) (s : Fin 1024) :
    l ≤ σ s ↔ s ∈ (Finset.univ.filter fun i : Fin 1024 => i.val < 102).image π := by
  have hcard : ((Finset.univ.filter fun i : Fin 1024 => i.val < 102).image π).card = 102 := by
    rw [Finset.card_image_of_injective _ hπ]; decide +kernel
  have hsurj : Function.Surjective π := Finite.surjective_of_injective hπ
  have htop : σ (π ⟨101, by omega⟩) ≤ h := by
    rcases H.2 with h1 | h1
    · exact h1 _
    · by_contra hc
      have : 102 ≤ cnt σ h := by
        rw [← hcard]
        refine Finset.card_le_card fun r hr => ?_
        obtain ⟨i, hi, rfl⟩ := Finset.mem_image.mp hr
        simp only [Finset.mem_filter, Finset.mem_univ, true_and] at hi ⊢
        rcases Nat.lt_or_ge i.val 101 with h2 | h2
        · exact (le_of_lt (not_le.mp hc)).trans (hdesc i ⟨101, by omega⟩ h2)
        · have : i = ⟨101, by omega⟩ := Fin.ext (by show i.val = 101; omega)
          rw [this]; exact le_of_lt (not_le.mp hc)
      omega
  have hsub : (Finset.univ.filter fun s => l ≤ σ s) ⊆ (Finset.univ.filter fun i : Fin 1024 => i.val < 102).image π := by
    intro r hr
    simp only [Finset.mem_filter, Finset.mem_univ, true_and] at hr
    obtain ⟨i, rfl⟩ := hsurj r
    refine Finset.mem_image.mpr ⟨i, ?_, rfl⟩
    simp only [Finset.mem_filter, Finset.mem_univ, true_and]
    by_contra hc
    have : σ (π i) ≤ σ (π ⟨102, by omega⟩) := by
      rcases Nat.lt_or_ge 102 i.val with h2 | h2
      · exact hdesc ⟨102, by omega⟩ i h2
      · have : i = ⟨102, by omega⟩ := Fin.ext (by show i.val = 102; omega)
        rw [this]
    linarith
  have heq := Finset.eq_of_subset_of_card_le hsub (by rw [hcard]; exact H.1)
  rw [← heq]
  simp

/-- Two linear layers folded into one. -/
theorem fold_layers {m n : Nat} (x : Fin m → ℝ) (a : Fin m → Fin n → ℝ) (b c : Fin n → ℝ) (d : ℝ) :
    ∑ k, x k * (∑ j, a k j * c j) + (∑ j, b j * c j + d)
      = ∑ j, (∑ k, x k * a k j + b j) * c j + d := by
  have : ∑ k, x k * (∑ j, a k j * c j) = ∑ j, (∑ k, x k * a k j) * c j := by
    simp only [Finset.mul_sum, Finset.sum_mul]
    rw [Finset.sum_comm]
    exact Finset.sum_congr rfl fun j _ => Finset.sum_congr rfl fun k _ => by ring
  rw [this, ← add_assoc, ← Finset.sum_add_distrib]
  congr 1
  exact Finset.sum_congr rfl fun j _ => by ring

/-- Two linear layers folded into one, over two inputs. -/
theorem fold_layers2 {m m' n : Nat} (x : Fin m → ℝ) (y : Fin m' → ℝ) (a : Fin m → Fin n → ℝ)
    (a' : Fin m' → Fin n → ℝ) (b c : Fin n → ℝ) (d : ℝ) :
    (∑ k, x k * (∑ j, a k j * c j) + ∑ k, y k * (∑ j, a' k j * c j)) + (∑ j, b j * c j + d)
      = ∑ j, ((∑ k, x k * a k j + ∑ k, y k * a' k j) + b j) * c j + d := by
  rw [add_assoc, fold_layers y a' b c d, fold_layers x a (fun j => ∑ k, y k * a' k j + b j) c d]
  simp only [← add_assoc]

/-- A real factor distributes over a sum with a real summand. -/
theorem coe_add_mul (r a : ℝ) (x : EReal) : ((r : EReal) + x) * (a : EReal) = (r : EReal) * a + x * a := by
  induction x with
  | coe x => rw [← EReal.coe_add, ← EReal.coe_mul, ← EReal.coe_mul, ← EReal.coe_mul, ← EReal.coe_add, add_mul]
  | top =>
    rw [EReal.coe_add_top, ← EReal.coe_mul]
    rcases lt_trichotomy a 0 with h | h | h
    · rw [EReal.top_mul_coe_of_neg h, EReal.add_bot]
    · subst h; simp
    · rw [EReal.top_mul_coe_of_pos h, EReal.coe_add_top]
  | bot =>
    rw [EReal.add_bot, ← EReal.coe_mul]
    rcases lt_trichotomy a 0 with h | h | h
    · rw [EReal.bot_mul_coe_of_neg h, EReal.coe_add_top]
    · subst h; simp
    · rw [EReal.bot_mul_coe_of_pos h, EReal.add_bot]

/-- Two linear layers folded into one, with the biases any extended reals. -/
theorem fold_layers_coe {m n : Nat} (x : Fin m → ℝ) (a : Fin m → Fin n → ℝ) (c : Fin n → ℝ) (b : Fin n → EReal) (d : EReal) :
    ∑ k, (x k : EReal) * ((∑ j, a k j * c j : ℝ) : EReal) + (∑ j, b j * (c j : EReal) + d)
      = ∑ j, (((∑ k, x k * a k j : ℝ) : EReal) + b j) * (c j : EReal) + d := by
  have e := fold_layers x a (fun _ => 0) c 0
  simp only [zero_mul, Finset.sum_const_zero, add_zero] at e
  simp only [coe_add_mul, ← EReal.coe_mul]
  rw [Finset.sum_add_distrib, ← coe_sum, ← coe_sum, e, add_assoc]

end Cert.Model
-- ==== Proof.Bisect.lean ====
module

public import proofs.«01_k».proof.Proof.IBody
public import proofs.«01_k».proof.Proof.Model

@[expose] public section

set_option maxRecDepth 16384

noncomputable section

/-! # The bisection for the 102nd largest score -/

namespace Cert.KernelIdeal.Bisect

open Cert.KernelIdeal Cert.KernelIdeal.Gen Idealize.ShloMosaic Cert.Model

/-- The thresholds of a round: the lower end plus eighths of the width. -/
def Ts (lo hi : FVec Ideal S1x1 .f32) (fr : FVec Ideal S8x1 .f32) : FVec Ideal S8x1 .f32 :=
  addf (broadcastTo S8x1 lo broadcasts_S1x1_S8x1) (mulf (broadcastTo S8x1 (subf hi lo) broadcasts_S1x1_S8x1) fr)
/-- Which scores reach a threshold. -/
def Fl (S : FVec Ideal S1x1024 .f32) (ts : FVec Ideal S8x1 .f32) : FVec Ideal S8x1024 .f32 :=
  sitofp .f32 (extui 32 (cmpf .oge (broadcastTo S8x1024 S broadcasts_S1x1024_S8x1024)
    (broadcastTo S8x1024 ts broadcasts_S8x1_S8x1024)) natLt_1_32)
/-- Which thresholds 102 scores reach. -/
def Ok (fl : FVec Ideal S8x1024 .f32) : IVec S8x1 1 :=
  cmpf .oge (shapeCast S8x1 (multiReduction .add [1] S8 fl 0x00000000#32 reduces_S8x1024_S8 (.inl rfl) rfl) shapeCasts_S8_S8x1)
    (broadcast S8x1 (Scalar.ofBits .f32 0x42CC0000#32))
/-- The next lower end. -/
def Lo (ok : IVec S8x1 1) (ts : FVec Ideal S8x1 .f32) : FVec Ideal S1x1 .f32 :=
  shapeCast S1x1 (multiReduction .maximumf [0] S1 (select ok ts (broadcast S8x1 (Scalar.ofBits .f32 0xFF800000#32)))
    0xFF800000#32 reduces_S8x1_S1 (.inl rfl) rfl) shapeCasts_S1_S1x1
/-- The next upper end. -/
def Hi (ok : IVec S8x1 1) (ts : FVec Ideal S8x1 .f32) (hi : FVec Ideal S1x1 .f32) : FVec Ideal S1x1 .f32 :=
  minimumf (shapeCast S1x1 (multiReduction .minimumf [0] S1 (select ok (broadcast S8x1 (Scalar.ofBits .f32 0x7F800000#32)) ts)
    0x7F800000#32 reduces_S8x1_S1 (.inl rfl) rfl) shapeCasts_S1_S1x1) hi

/-- One round. -/
def step (S : FVec Ideal S1x1024 .f32) (fr : FVec Ideal S8x1 .f32) (p : FVec Ideal S1x1 .f32 × FVec Ideal S1x1 .f32) :
    FVec Ideal S1x1 .f32 × FVec Ideal S1x1 .f32 :=
  (Lo (Ok (Fl S (Ts p.1 p.2 fr))) (Ts p.1 p.2 fr), Hi (Ok (Fl S (Ts p.1 p.2 fr))) (Ts p.1 p.2 fr) p.2)

theorem word_small (i : Fin 8) : (BitVec.ofNat 32 i.val).toInt = (i.val : ℤ) := by
  revert i; decide

/-- The eight fractions. -/
theorem fr_apply (i : Fin 8) (b : Fin 1) : (Run.fr (F := Ideal)) (ix2 i b) = (((i.val : ℝ) / 8 : ℝ) : EReal) := by
  pointwise [Run.fr, k1_pay22, k1_pay21, Run.cst8]
  show (((BitVec.ofNat 32 i.val).toInt : ℝ) : EReal) * _ = _
  rw [word_small, bits_eighth, ← EReal.coe_mul]
  congr 1
  push_cast
  ring

/-- A flag, as a number. -/
theorem flag (p : Prop) [Decidable p] :
    FloatOps.sitofp (F := Ideal) FTy.f32 (BitVec.setWidth 32 (BitVec.ofBool (decide p))) = ((if p then 1 else 0 : ℝ) : EReal) := by
  by_cases h : p
  · rw [decide_eq_true h, if_pos h]
    show (((BitVec.setWidth 32 (BitVec.ofBool true)).toInt : ℝ) : EReal) = _
    rw [show (BitVec.setWidth 32 (BitVec.ofBool true)).toInt = 1 by decide]; norm_num
  · rw [decide_eq_false h, if_neg h]
    show (((BitVec.setWidth 32 (BitVec.ofBool false)).toInt : ℝ) : EReal) = _
    rw [show (BitVec.setWidth 32 (BitVec.ofBool false)).toInt = 0 by decide]; norm_num

/-- A threshold passes when at least 102 scores reach it. -/
theorem ok_apply (σ : Fin 1024 → ℝ) (t : Fin 8 → ℝ) (S : FVec Ideal S1x1024 .f32) (ts : FVec Ideal S8x1 .f32)
    (hS : ∀ a s, S (ix2 a s) = (σ s : EReal)) (hts : ∀ i b, ts (ix2 i b) = (t i : EReal)) (i : Fin 8) (b : Fin 1) :
    Ok (Fl S ts) (ix2 i b) = BitVec.ofBool (decide (102 ≤ cnt σ (t i))) := by
  pointwise [Ok, Fl, hS, hts]
  congr 1
  refine decide_eq_decide.mpr ?_
  simp only [EReal.coe_le_coe_iff, flag]
  rw [bits_102, ← coe_sum, EReal.coe_le_coe_iff, Finset.sum_boole]
  unfold cnt
  exact_mod_cast Iff.rfl

/-- The next lower end, read. -/
theorem lo_apply (t : Fin 8 → ℝ) (p : Fin 8 → Bool) (ok : IVec S8x1 1) (ts : FVec Ideal S8x1 .f32)
    (hok : ∀ i b, ok (ix2 i b) = BitVec.ofBool (p i)) (hts : ∀ i b, ts (ix2 i b) = (t i : EReal)) (a b : Fin 1) :
    Lo ok ts (ix2 a b) = Finset.univ.fold max ⊥ (fun i => if p i = true then (t i : EReal) else ⊥) := by
  pointwise [Lo, hok, hts]
  simp only [bits_neg_inf]

/-- The next upper end, read. -/
theorem hi_apply (t : Fin 8 → ℝ) (h : ℝ) (p : Fin 8 → Bool) (ok : IVec S8x1 1) (ts : FVec Ideal S8x1 .f32) (hi : FVec Ideal S1x1 .f32)
    (hhi : ∀ a b, hi (ix2 a b) = (h : EReal))
    (hok : ∀ i b, ok (ix2 i b) = BitVec.ofBool (p i)) (hts : ∀ i b, ts (ix2 i b) = (t i : EReal)) (a b : Fin 1) :
    Hi ok ts hi (ix2 a b) = min (Finset.univ.fold min ⊤ (fun i => if p i = true then ⊤ else (t i : EReal))) (h : EReal) := by
  pointwise [Hi, hok, hts, hhi]
  simp only [bits_inf]

/-- The thresholds, read. -/
theorem ts_apply (l h : ℝ) (lo hi : FVec Ideal S1x1 .f32) (hlo : ∀ a b, lo (ix2 a b) = (l : EReal))
    (hhi : ∀ a b, hi (ix2 a b) = (h : EReal)) (i : Fin 8) (b : Fin 1) :
    Ts lo hi Run.fr (ix2 i b) = ((l + (h - l) * ((i.val : ℝ) / 8) : ℝ) : EReal) := by
  pointwise [Ts, fr_apply, hlo, hhi]
  rw [EReal.coe_add, EReal.coe_mul, EReal.coe_sub]

/-- The first lower and upper end are the smallest and the largest score. -/
theorem ends_apply (σ : Fin 1024 → ℝ) (p111 : FVec Ideal S1024x32 .f32) (p114 : Vec Ideal S1x32 .f32) (p117 : Vec Ideal S1x1 .f32)
    (hS : ∀ a s, Run.sc p111 p114 p117 (ix2 a s) = (σ s : EReal)) (a b : Fin 1) :
    Run.lo0 p111 p114 p117 (ix2 a b) = Finset.univ.fold min ⊤ (fun s => (σ s : EReal))
      ∧ Run.hi0 p111 p114 p117 (ix2 a b) = Finset.univ.fold max ⊥ (fun s => (σ s : EReal)) := by
  have hS' : ∀ a s, k1_pay16 p111 k1_pay15 p114 p117 (ix2 a s) = (σ s : EReal) := hS
  constructor
  · pointwise [Run.lo0, k1_pay19, hS']
    rw [bits_inf]
  · pointwise [Run.hi0, k1_pay20, hS']
    rw [bits_neg_inf]

/-- The state after `n` rounds. -/
def st (S : FVec Ideal S1x1024 .f32) (p : FVec Ideal S1x1 .f32 × FVec Ideal S1x1 .f32) :
    Nat → FVec Ideal S1x1 .f32 × FVec Ideal S1x1 .f32
  | 0 => p
  | n + 1 => step S Run.fr (st S p n)

/-- After `n` rounds the two ends are real, keep the invariant, and lie an eighth to the `n` of the first width apart. -/
theorem st_inv (σ : Fin 1024 → ℝ) (S : FVec Ideal S1x1024 .f32) (hS : ∀ a s, S (ix2 a s) = (σ s : EReal))
    (p : FVec Ideal S1x1 .f32 × FVec Ideal S1x1 .f32) (l0 h0 : ℝ) (hp1 : ∀ a b, p.1 (ix2 a b) = (l0 : EReal))
    (hp2 : ∀ a b, p.2 (ix2 a b) = (h0 : EReal)) (H0 : Inv σ l0 h0) (n : Nat) :
    ∃ l h : ℝ, (∀ a b, (st S p n).1 (ix2 a b) = (l : EReal)) ∧ (∀ a b, (st S p n).2 (ix2 a b) = (h : EReal))
      ∧ Inv σ l h ∧ h - l ≤ (h0 - l0) / 8 ^ n := by
  induction n with
  | zero => exact ⟨l0, h0, hp1, hp2, H0, by simp⟩
  | succ n ih =>
    obtain ⟨l, h, hl, hh, H, hw⟩ := ih
    have hts := ts_apply l h (st S p n).1 (st S p n).2 hl hh
    have hok := ok_apply σ (fun i => l + (h - l) * ((i.val : ℝ) / 8)) S _ hS hts
    have hlo := lo_apply _ _ _ _ hok hts
    have hhi := hi_apply _ h _ _ _ (st S p n).2 hh hok hts
    obtain ⟨l', hl1, hl2, i, hi, hl3⟩ := fold_max_masked
      (fun i : Fin 8 => decide (102 ≤ cnt σ (l + (h - l) * ((i.val : ℝ) / 8)))) (fun i => l + (h - l) * ((i.val : ℝ) / 8)) 0
      (by simpa using H.1)
    obtain ⟨h', hh1, hh2, hh3, hh4⟩ := fold_min_masked
      (fun i : Fin 8 => decide (102 ≤ cnt σ (l + (h - l) * ((i.val : ℝ) / 8)))) (fun i => l + (h - l) * ((i.val : ℝ) / 8)) h
    have hr := round H (fun i => l + (h - l) * ((i.val : ℝ) / 8)) (fun _ => rfl)
      (fun i hi => hl2 i (decide_eq_true hi)) ⟨i, of_decide_eq_true hi, hl3⟩ hh2
      (fun i hi => hh3 i (decide_eq_false hi))
      (hh4.imp id fun ⟨i, hi, he⟩ => ⟨i, of_decide_eq_false hi, he⟩)
    refine ⟨l', h', fun a b => (hlo a b).trans hl1, fun a b => (hhi a b).trans hh1, hr.1, hr.2.trans ?_⟩
    rw [pow_succ, ← div_div]
    exact div_le_div_of_nonneg_right hw (by norm_num)

/-! ## The printed rounds are these rounds -/

/-- A round from its thresholds. -/
def half (S : FVec Ideal S1x1024 .f32) (ts : FVec Ideal S8x1 .f32) (hi : FVec Ideal S1x1 .f32) :
    FVec Ideal S1x1 .f32 × FVec Ideal S1x1 .f32 := (Lo (Ok (Fl S ts)) ts, Hi (Ok (Fl S ts)) ts hi)

/-- The thresholds of a state. -/
abbrev tsOf (fr : FVec Ideal S8x1 .f32) (p : FVec Ideal S1x1 .f32 × FVec Ideal S1x1 .f32) : FVec Ideal S8x1 .f32 := Ts p.1 p.2 fr

theorem pays4 (S : FVec Ideal S1x1024 .f32) (fr : FVec Ideal S8x1 .f32) (p : FVec Ideal S1x1 .f32 × FVec Ideal S1x1 .f32) :
    k1_pay35 S fr p.1 p.2 = (step S fr (step S fr p)).1 ∧ k1_pay36 S fr p.1 p.2 = (step S fr (step S fr p)).2
      ∧ k1_pay37 S fr p.1 p.2 = broadcastTo S8x1 (subf (step S fr (step S fr p)).2 (step S fr (step S fr p)).1) broadcasts_S1x1_S8x1 :=
  ⟨rfl, rfl, rfl⟩

theorem pays6 (S : FVec Ideal S1x1024 .f32) (fr : FVec Ideal S8x1 .f32) (p : FVec Ideal S1x1 .f32 × FVec Ideal S1x1 .f32) :
    k1_pay44 S fr p.1 p.2 (broadcastTo S8x1 (subf p.2 p.1) broadcasts_S1x1_S8x1) = (step S fr (step S fr p)).2
      ∧ addf (k1_pay46 S fr p.1 p.2 (broadcastTo S8x1 (subf p.2 p.1) broadcasts_S1x1_S8x1))
          (k1_pay45 S fr p.1 p.2 (broadcastTo S8x1 (subf p.2 p.1) broadcasts_S1x1_S8x1))
        = tsOf fr (step S fr (step S fr p)) := ⟨rfl, rfl⟩

theorem pays8 (S : FVec Ideal S1x1024 .f32) (fr : FVec Ideal S8x1 .f32) (hi : FVec Ideal S1x1 .f32) (x y : FVec Ideal S8x1 .f32) :
    k1_pay52 S fr hi y x = (step S fr (half S (addf x y) hi)).2
      ∧ k1_pay53 S fr hi y x = tsOf fr (step S fr (half S (addf x y) hi)) := ⟨rfl, rfl⟩

theorem pays10 (S : FVec Ideal S1x1024 .f32) (fr : FVec Ideal S8x1 .f32) (hi : FVec Ideal S1x1 .f32) (ts : FVec Ideal S8x1 .f32) :
    k1_pay59 S fr hi ts (k1_pay54 S) = (step S fr (half S ts hi)).2
      ∧ k1_pay60 S fr hi ts (k1_pay54 S) = tsOf fr (step S fr (half S ts hi))
      ∧ k1_pay61 S fr hi ts (k1_pay54 S) = cmpf .oge (broadcastTo S8x1024 S broadcasts_S1x1024_S8x1024)
          (broadcastTo S8x1024 (tsOf fr (step S fr (half S ts hi))) broadcasts_S8x1_S8x1024) := ⟨rfl, rfl, rfl⟩

theorem pays12 (S : FVec Ideal S1x1024 .f32) (fr : FVec Ideal S8x1 .f32) (hi : FVec Ideal S1x1 .f32) (ts : FVec Ideal S8x1 .f32) :
    k1_pay62 S fr hi ts (cmpf .oge (broadcastTo S8x1024 S broadcasts_S1x1024_S8x1024)
        (broadcastTo S8x1024 ts broadcasts_S8x1_S8x1024)) = tsOf fr (step S fr (half S ts hi))
      ∧ k1_pay63 S fr hi ts (cmpf .oge (broadcastTo S8x1024 S broadcasts_S1x1024_S8x1024)
        (broadcastTo S8x1024 ts broadcasts_S8x1_S8x1024)) = Fl S (tsOf fr (step S fr (half S ts hi))) := ⟨rfl, rfl⟩

section Same
variable (p111 : FVec Ideal S1024x32 .f32) (p114 : Vec Ideal S1x32 .f32) (p117 : Vec Ideal S1x1 .f32)

/-- The first ends. -/
abbrev ends : FVec Ideal S1x1 .f32 × FVec Ideal S1x1 .f32 := (Run.lo0 p111 p114 p117, Run.hi0 p111 p114 p117)

/-- The state after `n` rounds of the row of scores. -/
abbrev sn (n : Nat) : FVec Ideal S1x1 .f32 × FVec Ideal S1x1 .f32 := st (Run.sc p111 p114 p117) (ends p111 p114 p117) n

theorem same2 : Run.b191 p111 p114 p117 = (sn p111 p114 p117 2).1 ∧ Run.b196 p111 p114 p117 = (sn p111 p114 p117 2).2 := ⟨rfl, rfl⟩

theorem same4 : Run.b237 p111 p114 p117 = (sn p111 p114 p117 4).1 ∧ Run.b242 p111 p114 p117 = (sn p111 p114 p117 4).2
    ∧ Run.b244 p111 p114 p117 = broadcastTo S8x1 (subf (sn p111 p114 p117 4).2 (sn p111 p114 p117 4).1) broadcasts_S1x1_S8x1 := by
  unfold Run.b237 Run.b242 Run.b244
  rw [(same2 p111 p114 p117).1, (same2 p111 p114 p117).2]
  exact pays4 _ _ (sn p111 p114 p117 2)

theorem same6 : Run.b288 p111 p114 p117 = (sn p111 p114 p117 6).2
    ∧ addf (Run.b292 p111 p114 p117) (Run.b291 p111 p114 p117) = tsOf Run.fr (sn p111 p114 p117 6) := by
  unfold Run.b288 Run.b291 Run.b292
  rw [(same4 p111 p114 p117).1, (same4 p111 p114 p117).2.1, (same4 p111 p114 p117).2.2]
  exact pays6 _ _ (sn p111 p114 p117 4)

theorem same8 : Run.b334 p111 p114 p117 = (sn p111 p114 p117 8).2
    ∧ Run.b339 p111 p114 p117 = tsOf Run.fr (sn p111 p114 p117 8) := by
  unfold Run.b334 Run.b339
  rw [(same6 p111 p114 p117).1]
  have h := pays8 (Run.sc p111 p114 p117) Run.fr (sn p111 p114 p117 6).2 (Run.b292 p111 p114 p117) (Run.b291 p111 p114 p117)
  rw [(same6 p111 p114 p117).2] at h
  exact h

theorem same10 : Run.b380 p111 p114 p117 = (sn p111 p114 p117 10).2
    ∧ Run.b385 p111 p114 p117 = tsOf Run.fr (sn p111 p114 p117 10)
    ∧ Run.b388 p111 p114 p117 = cmpf .oge (broadcastTo S8x1024 (Run.sc p111 p114 p117) broadcasts_S1x1024_S8x1024)
          (broadcastTo S8x1024 (tsOf Run.fr (sn p111 p114 p117 10)) broadcasts_S8x1_S8x1024) := by
  unfold Run.b380 Run.b385 Run.b388 Run.b340
  rw [(same8 p111 p114 p117).1, (same8 p111 p114 p117).2]
  exact pays10 (Run.sc p111 p114 p117) Run.fr (sn p111 p114 p117 8).2 (tsOf Run.fr (sn p111 p114 p117 8))

/-- The last thresholds and flags the kernel holds are those of the state after 12 rounds. -/
theorem same12 : Run.b431 p111 p114 p117 = tsOf Run.fr (sn p111 p114 p117 12)
    ∧ Run.b436 p111 p114 p117 = Fl (Run.sc p111 p114 p117) (tsOf Run.fr (sn p111 p114 p117 12)) := by
  unfold Run.b431 Run.b436
  rw [(same10 p111 p114 p117).1, (same10 p111 p114 p117).2.1, (same10 p111 p114 p117).2.2]
  exact pays12 (Run.sc p111 p114 p117) Run.fr (sn p111 p114 p117 10).2 (tsOf Run.fr (sn p111 p114 p117 10))

/-- The masked pooling logits, from the lower end after 13 rounds. -/
theorem same13 (v95 : FVec Ideal S1024x1024 .f32) (w1 : Vec Ideal S1024x512 .f32) (b1 : Vec Ideal S1x512 .f32)
    (w2 : Vec Ideal S512x512 .f32) (b2 w3 : Vec Ideal S1x512 .f32) (b3 : Vec Ideal S1x1 .f32) :
    k1_pay65 v95 (Run.sc p111 p114 p117) (Run.b431 p111 p114 p117) (Run.b436 p111 p114 p117) w1 b1 w2 b2 w3 b3
      = select (cmpf .oge (Run.sc p111 p114 p117) (broadcastTo S1x1024 (sn p111 p114 p117 13).1 broadcasts_S1x1_S1x1024))
          (addf (matmul (φ₁ := .f32) (φ₂ := .f32) dot_S1x512_S1024x512_S1x1024_1_1_0_0_n_n none (shapeCast S1x512 w3 shapeCasts_S1x512_S1x512)
            (k1_pay64 v95 w1 b1 w2 b2) (constant S1x1024 .f32 0x00000000#32))
            (broadcastTo S1x1024 (shapeCast S1x1 b3 shapeCasts_S1x1_S1x1) broadcasts_S1x1_S1x1024))
          (broadcast S1x1024 (Scalar.ofBits .f32 0xFF800000#32)) := by
  rw [(same12 p111 p114 p117).1, (same12 p111 p114 p117).2]
  rfl

/-- The lower end after 13 rounds selects the 102 largest scores, when the gap below the 102nd is more than the
range of the scores over `8 ^ 13`. -/
theorem low_selects (σ : Fin 1024 → ℝ) (hS : ∀ a s, Run.sc p111 p114 p117 (ix2 a s) = (σ s : EReal))
    (π : Fin 1024 → Fin 1024) (hπ : Function.Injective π) (hdesc : ∀ i j : Fin 1024, i < j → σ (π j) ≤ σ (π i))
    (hgap : (σ (π ⟨0, by omega⟩) - σ (π ⟨1023, by omega⟩)) / 8 ^ 13 < σ (π ⟨101, by omega⟩) - σ (π ⟨102, by omega⟩)) :
    ∃ l : ℝ, (∀ a b, (sn p111 p114 p117 13).1 (ix2 a b) = (l : EReal))
      ∧ ∀ s, l ≤ σ s ↔ s ∈ (Finset.univ.filter fun i : Fin 1024 => i.val < 102).image π := by
  have hsurj : Function.Surjective π := Finite.surjective_of_injective hπ
  have hmax : ∀ s, σ s ≤ σ (π ⟨0, by omega⟩) := fun s => by
    obtain ⟨i, rfl⟩ := hsurj s
    rcases Nat.eq_zero_or_pos i.val with h | h
    · have : i = ⟨0, by omega⟩ := Fin.ext h
      rw [this]
    · exact hdesc ⟨0, by omega⟩ i h
  have hmin : ∀ s, σ (π ⟨1023, by omega⟩) ≤ σ s := fun s => by
    obtain ⟨i, rfl⟩ := hsurj s
    rcases Nat.lt_or_ge i.val 1023 with h | h
    · exact hdesc i ⟨1023, by omega⟩ h
    · have : i = ⟨1023, by omega⟩ := Fin.ext (by show i.val = 1023; omega)
      rw [this]
  obtain ⟨l0, hl0, hl1, jl, hl2⟩ := fold_min_coe σ 0
  obtain ⟨h0, hh0, hh1, jh, hh2⟩ := fold_max_coe σ 0
  have hl3 : l0 = σ (π ⟨1023, by omega⟩) := le_antisymm (hl1 _) (by rw [hl2]; exact hmin _)
  have hh3 : h0 = σ (π ⟨0, by omega⟩) := le_antisymm (by rw [hh2]; exact hmax _) (hh1 _)
  have hends := ends_apply σ p111 p114 p117 hS
  have H0 : Inv σ l0 h0 := by
    refine ⟨?_, Or.inl hh1⟩
    have : (Finset.univ.filter fun s => l0 ≤ σ s) = Finset.univ := by
      ext s; simp [hl1 s]
    unfold cnt
    rw [this]; simp
  obtain ⟨l, h, hl, _, H, hw⟩ := st_inv σ (Run.sc p111 p114 p117) hS (ends p111 p114 p117) l0 h0
    (fun a b => (hends a b).1.trans hl0) (fun a b => (hends a b).2.trans hh0) H0 13
  refine ⟨l, hl, fun s => selected H π hπ hdesc ?_ s⟩
  rw [hl3, hh3] at hw
  exact lt_of_le_of_lt hw hgap
end Same

end Cert.KernelIdeal.Bisect
-- ==== Proof.KStage.lean ====
module

public import proofs.«01_k».proof.Proof.Bisect

@[expose] public section

set_option maxRecDepth 16384

noncomputable section

/-! # The main kernel's payloads over the contents of the networks -/

namespace Cert.KernelIdeal.Stage

open Cert.KernelIdeal Cert.KernelIdeal.Gen Idealize.ShloMosaic Cert.Model

/-- The row of scores. -/
theorem score_apply (N : Net) (X : Vec Ideal S1x1024x1024 .f32) (w1 : Vec Ideal S1024x256 .f32)
    (b1 : Vec Ideal S1x256 .f32) (w2 : Vec Ideal S256x32 .f32) (b2 w3 : Vec Ideal S1x32 .f32) (b3 : Vec Ideal S1x1 .f32)
    (hs : ∀ s, N.preScore s = (N.score s : EReal)) (hv : ∀ a s k, X (ix3 a s k) = (N.v s k : EReal))
    (hw1 : ∀ k e, w1 (ix2 k e) = (N.w1 k e : EReal))
    (hb1 : ∀ a e, b1 (ix2 a e) = (N.b1 e : EReal)) (hw2 : ∀ k e, w2 (ix2 k e) = (N.w2 k e : EReal))
    (hb2 : ∀ a e, b2 (ix2 a e) = (N.b2 e : EReal)) (hw3 : ∀ a e, w3 (ix2 a e) = (N.w3 e : EReal))
    (hb3 : ∀ a b, b3 (ix2 a b) = (N.b3 : EReal)) (a : Fin 1) (s : Fin 1024) :
    Run.sc (k1_pay14 X w1 b1 w2 b2) w3 b3 (ix2 a s) = (N.score s : EReal) := by
  pointwise [Run.sc, k1_pay16, k1_pay14, k1_pay15, k1_pay12, hv, hw1, hb1, hw2, hb2, hw3, hb3]
  simp only [← hs, Net.preScore, Net.h2, Net.h1, mul_comm (N.w3 _ : EReal)]

/-- The features. -/
theorem cc_apply (N : Net) (X : Vec Ideal S1x1024x1024 .f32) (w1 : Vec Ideal S1024x512 .f32)
    (b1 : Vec Ideal S1x512 .f32) (w2 : Vec Ideal S512x512 .f32) (b2 : Vec Ideal S1x512 .f32)
    (hv : ∀ a s k, X (ix3 a s k) = (N.v s k : EReal)) (hw1 : ∀ k e, w1 (ix2 k e) = (N.fw k e : EReal))
    (hb1 : ∀ a e, b1 (ix2 a e) = (N.fb e : EReal)) (hw2 : ∀ k e, w2 (ix2 k e) = (N.gw k e : EReal))
    (hb2 : ∀ a e, b2 (ix2 a e) = (N.gb e : EReal)) (s : Fin 1024) (e : Fin 512) :
    k1_pay64 (k1_pay12 X) w1 b1 w2 b2 (ix2 s e) = (N.cc s e : EReal) := by
  pointwise [k1_pay64, k1_pay12, hv, hw1, hb1, hw2, hb2]
  simp only [Net.cc, Net.tt, EReal.coe_add, EReal.coe_mul, coe_sum, coe_max, EReal.coe_zero]

/-- The masked pooling logits. -/
theorem mlg_apply (N : Net) (S : FVec Ideal S1x1024 .f32) (lo : FVec Ideal S1x1 .f32) (C : FVec Ideal S1024x512 .f32)
    (w3 : Vec Ideal S1x512 .f32) (b3 : Vec Ideal S1x1 .f32) (l : ℝ)
    (hS : ∀ a s, S (ix2 a s) = (N.score s : EReal)) (hlo : ∀ a b, lo (ix2 a b) = (l : EReal))
    (hC : ∀ s e, C (ix2 s e) = (N.cc s e : EReal)) (hw3 : ∀ a e, w3 (ix2 a e) = (N.aw e : EReal))
    (hb3 : ∀ a b, b3 (ix2 a b) = (N.ab : EReal)) (a : Fin 1) (s : Fin 1024) :
    (select (cmpf .oge S (broadcastTo S1x1024 lo broadcasts_S1x1_S1x1024))
          (addf (matmul (φ₁ := .f32) (φ₂ := .f32) dot_S1x512_S1024x512_S1x1024_1_1_0_0_n_n none (shapeCast S1x512 w3 shapeCasts_S1x512_S1x512)
            C (constant S1x1024 .f32 0x00000000#32))
            (broadcastTo S1x1024 (shapeCast S1x1 b3 shapeCasts_S1x1_S1x1) broadcasts_S1x1_S1x1024))
          (broadcast S1x1024 (Scalar.ofBits .f32 0xFF800000#32))) (ix2 a s)
      = if l ≤ N.score s then (N.lg s : EReal) else ⊥ := by
  pointwise [hS, hlo, hC, hw3, hb3]
  simp only [Net.lg, EReal.coe_add, EReal.coe_mul, coe_sum, mul_comm (N.aw _ : EReal), bits_neg_inf, EReal.coe_le_coe_iff]

/-- The pooled vector, from logits masked to the rows `T`. -/
theorem pool_apply (N : Net) (T : Finset (Fin 1024)) (s0 : Fin 1024) (hs0 : s0 ∈ T) (C : FVec Ideal S1024x512 .f32)
    (L : FVec Ideal S1x1024 .f32)
    (hC : ∀ s e, C (ix2 s e) = (N.cc s e : EReal)) (hL : ∀ a s, L (ix2 a s) = if s ∈ T then (N.lg s : EReal) else ⊥)
    (a b : Fin 1) (e : Fin 512) :
    k1_pay1 C L (shapeCast S1x1 (multiReduction .maximumf [1] S1 L 0xFF800000#32 reduces_S1x1024_S1 (.inl rfl) rfl) shapeCasts_S1_S1x1)
      (ix3 a b e) = (N.cam T e : EReal) := by
  pointwise [k1_pay1, hC]
  rw [bits_neg_inf]
  simp only [softmax_masked (fun s => s ∈ T) N.lg (fun s => L (ix2 0 s)) (fun s => hL 0 s) s0 hs0]
  simp only [← EReal.coe_mul, ← coe_sum]
  congr 1
  unfold Net.cam
  rw [← Finset.sum_subset (Finset.subset_univ T)]
  · refine Finset.sum_congr rfl fun s hs => ?_
    rw [if_pos hs, Finset.filter_mem_eq_inter, Finset.univ_inter]
  · intro s _ hs
    rw [if_neg hs, zero_mul]

/-- The keys. -/
theorem kk_apply (N : Net) (X : Vec Ideal S1x1024x1024 .f32) (Y : Vec Ideal S1x1024x512 .f32) (w1 : Vec Ideal S1024x512 .f32)
    (w2 : Vec Ideal S512x512 .f32) (b : Vec Ideal S1x512 .f32)
    (hv : ∀ a s k, X (ix3 a s k) = (N.v s k : EReal)) (ht : ∀ a s k, Y (ix3 a s k) = (N.t s k : EReal))
    (hw1 : ∀ k e, w1 (ix2 k e) = ((∑ j, N.kw (Net.up k) j * N.iw j (Net.colK e) : ℝ) : EReal))
    (hw2 : ∀ k e, w2 (ix2 k e) = ((∑ j, N.kw (Net.dn k) j * N.iw j (Net.colK e) : ℝ) : EReal))
    (hb : ∀ a e, b (ix2 a e) = ((∑ j, N.kb j * N.iw j (Net.colK e) + N.ib (Net.colK e) : ℝ) : EReal))
    (a : Fin 1) (s : Fin 1024) (e : Fin 512) :
    k1_pay2 (k1_pay17 (k1_pay12 X) (k1_pay13 Y) w1 w2 b) (ix3 a s e) = (N.kk s e : EReal) := by
  pointwise [k1_pay2, k1_pay17, k1_pay12, k1_pay13, hv, ht, hw1, hw2, hb]
  rw [Net.kk]
  simp only [Net.kk0]
  rw [← fold_layers2]
  simp only [EReal.coe_add, EReal.coe_mul, coe_sum]

/-- The values. -/
theorem vv_apply (N : Net) (X : Vec Ideal S1x1024x1024 .f32) (Y : Vec Ideal S1x1024x512 .f32) (w1 : Vec Ideal S1024x512 .f32)
    (w2 : Vec Ideal S512x512 .f32) (b : Vec Ideal S1x512 .f32)
    (hv : ∀ a s k, X (ix3 a s k) = (N.v s k : EReal)) (ht : ∀ a s k, Y (ix3 a s k) = (N.t s k : EReal))
    (hw1 : ∀ k e, w1 (ix2 k e) = ((∑ j, N.vw (Net.up k) j * N.iw j (Net.colV e) : ℝ) : EReal))
    (hw2 : ∀ k e, w2 (ix2 k e) = ((∑ j, N.vw (Net.dn k) j * N.iw j (Net.colV e) : ℝ) : EReal))
    (hb : ∀ a e, b (ix2 a e) = ((∑ j, N.vb j * N.iw j (Net.colV e) + N.ib (Net.colV e) : ℝ) : EReal))
    (a : Fin 1) (s : Fin 1024) (e : Fin 512) :
    k1_pay3 (k1_pay18 (k1_pay12 X) (k1_pay13 Y) w1 w2 b) (ix3 a s e) = (N.vv s e : EReal) := by
  pointwise [k1_pay3, k1_pay18, k1_pay12, k1_pay13, hv, ht, hw1, hw2, hb]
  rw [Net.vv]
  simp only [Net.vv0]
  rw [← fold_layers2]
  simp only [EReal.coe_add, EReal.coe_mul, coe_sum]

/-- The query. -/
theorem q_apply (N : Net) (T : Finset (Fin 1024)) (z : Vec Ideal S1x1x512 .f32) (w : Vec Ideal S512x512 .f32) (b : Vec Ideal S1x512 .f32)
    (hz : ∀ a b e, z (ix3 a b e) = (N.cam T e : EReal))
    (hw : ∀ k e, w (ix2 k e) = ((∑ j, N.qw k j * N.iw j (Net.colQ e) : ℝ) : EReal))
    (hb : ∀ a e, b (ix2 a e) = ((∑ j, N.qb j * N.iw j (Net.colQ e) + N.ib (Net.colQ e) : ℝ) : EReal)) (a : Fin 1) (e : Fin 512) :
    k1_pay6 z w b (ix2 a e) = (N.q T e : EReal) := by
  pointwise [k1_pay6, hz, hw, hb]
  rw [Net.q, ← fold_layers]
  simp only [EReal.coe_add, EReal.coe_mul, coe_sum]

theorem bm_word (e : Fin 512) (h : Fin 4) :
    (BitVec.setWidth 32 (IntOp.cmpi CmpIPredicate.eq
      (Scalar.select
        (IntOp.andi
          (IntOp.cmpi CmpIPredicate.ne
            (IntOp.subi
              (BitVec.setWidth 32 (IntOp.cmpi CmpIPredicate.sgt (BitVec.ofNat 32 ↑e) 0#32))
              (BitVec.setWidth 32 (IntOp.cmpi CmpIPredicate.slt (BitVec.ofNat 32 ↑e) 0#32)))
            (Scalar.subi (Scalar.extui (Scalar.cmpi CmpIPredicate.sgt 128#32 0#32))
              (Scalar.extui (Scalar.cmpi CmpIPredicate.slt 128#32 0#32))))
          (IntOp.cmpi CmpIPredicate.ne
            (IntOp.remsi ArithUnit.vector (BitVec.ofNat 32 ↑e) 128#32) 0#32))
        (IntOp.subi (IntOp.divsi ArithUnit.vector (BitVec.ofNat 32 ↑e) 128#32) 1#32)
        (IntOp.divsi ArithUnit.vector (BitVec.ofNat 32 ↑e) 128#32))
      (BitVec.ofNat 32 ↑h))) = if e.val / 128 = h.val then 1#32 else 0#32 := by
  revert e h
  decide +kernel

theorem bm_flag (p : Prop) [Decidable p] :
    FloatOps.sitofp (F := Ideal) FTy.f32 (if p then 1#32 else 0#32) = ((if p then 1 else 0 : ℝ) : EReal) := by
  by_cases h : p
  · rw [if_pos h, if_pos h]
    show (((1#32 : BitVec 32).toInt : ℝ) : EReal) = _
    rw [show (1#32 : BitVec 32).toInt = 1 by decide]; norm_num
  · rw [if_neg h, if_neg h]
    show (((0#32 : BitVec 32).toInt : ℝ) : EReal) = _
    rw [show (0#32 : BitVec 32).toInt = 0 by decide]; norm_num

theorem scale : Ideal.div 1 (Scalar.sqrt (F := Ideal) (φ := .f32) (Ideal.ofBits FTy.f32 1124073472#32)) = ((1 / Real.sqrt 128 : ℝ) : EReal) := by
  rw [bits_128]
  show Ideal.div 1 (if (128 : ℝ) < 0 then ⊥ else ((Real.sqrt 128 : ℝ) : EReal)) = _
  rw [if_neg (by norm_num), Ideal.div_coe (Real.sqrt_ne_zero'.mpr (by norm_num)), one_mul]

/-- A sum over the lanes of one head. -/
theorem head_sum (f : Fin 512 → ℝ) (h : Fin 4) :
    ∑ x : Fin 512, (if x.val / 128 = h.val then 1 else 0) * f x = ∑ d : Fin 128, f (Net.lane h d) := by
  simp only [ite_mul, one_mul, zero_mul]
  rw [← Finset.sum_filter]
  refine (Finset.sum_bij (fun d _ => Net.lane h d) ?_ ?_ ?_ ?_).symm
  · intro d _
    simp only [Finset.mem_filter, Finset.mem_univ, true_and]
    have := d.isLt
    show (h.val * 128 + d.val) / 128 = h.val
    omega
  · intro d _ d' _ he
    have := congrArg Fin.val he
    exact Fin.ext (by simpa using this)
  · intro x hx
    simp only [Finset.mem_filter, Finset.mem_univ, true_and] at hx
    refine ⟨⟨x.val % 128, Nat.mod_lt _ (by norm_num)⟩, Finset.mem_univ _, Fin.ext ?_⟩
    show h.val * 128 + x.val % 128 = x.val
    omega
  · intro d _; rfl

/-- An attention logit. -/
theorem logit_apply (N : Net) (T : Finset (Fin 1024)) (h : Fin 4) (s : Fin 1024) :
    (∑ x : Fin 512, ((if x.val / 128 = h.val then 1 else 0 : ℝ) : EReal) * (N.q T x : EReal) * (N.kk s x : EReal))
      * ((1 / Real.sqrt 128 : ℝ) : EReal) = (N.al T h s : EReal) := by
  simp only [← EReal.coe_mul, ← coe_sum]
  congr 1
  rw [Net.al, ← head_sum (fun x => N.q T x * N.kk s x)]
  simp only [mul_assoc]

/-- Which head a lane belongs to. -/
def bm : FVec Ideal S4x512 .f32 :=
  sitofp .f32 (extui 32 (cmpi .eq (select k1_pay8 (subi k1_pay7 (broadcast S4x512 1#32)) k1_pay7)
    (iota .tc S4x512 32 [0] iota_S4x512_d0_w32)) natLt_1_32)
/-- The attention logits. -/
def lgt (K : Vec Ideal S1024x512 .f32) (Q : Vec Ideal S1x512 .f32) : FVec Ideal S4x1024 .f32 :=
  mulf (matmul (φ₁ := .f32) (φ₂ := .f32) dot_S4x512_S1024x512_S4x1024_1_1_0_0_n_n none (mulf bm (broadcastTo S4x512 Q broadcasts_S1x512_S4x512)) K
    (constant S4x1024 .f32 0x00000000#32))
    (broadcast S4x1024 (Scalar.divf (Scalar.ofBits .f32 0x3F800000#32) (Scalar.sqrt (Scalar.ofBits .f32 0x43000000#32))))
/-- Exponentials of the logits with the maximum taken out. -/
def ex (L : FVec Ideal S4x1024 .f32) : FVec Ideal S4x1024 .f32 :=
  exp (subf L (broadcastTo S4x1024 (shapeCast S4x1 (multiReduction .maximumf [1] S4 L 0xFF800000#32 reduces_S4x1024_S4 (.inl rfl) rfl)
    shapeCasts_S4_S4x1) broadcasts_S4x1_S4x1024))
/-- The attention weights. -/
def att (L : FVec Ideal S4x1024 .f32) : FVec Ideal S4x1024 .f32 :=
  divf (ex L) (broadcastTo S4x1024 (shapeCast S4x1 (multiReduction .add [1] S4 (ex L) 0x00000000#32 reduces_S4x1024_S4 (.inl rfl) rfl)
    shapeCasts_S4_S4x1) broadcasts_S4x1_S4x1024)
/-- The attended vector. -/
def cx (A : FVec Ideal S4x1024 .f32) (V : Vec Ideal S1024x512 .f32) : FVec Ideal S1x512 .f32 :=
  shapeCast S1x512 (multiReduction .add [0] S512
    (mulf (matmul (φ₁ := .f32) (φ₂ := .f32) dot_S4x1024_S1024x512_S4x512_1_0_0_1_n_n none A V (constant S4x512 .f32 0x00000000#32)) bm)
    0x00000000#32 reduces_S4x512_S512 (.inl rfl) rfl) shapeCasts_S512_S1x512
/-- The last network's first two layers. -/
def tl (x : FVec Ideal S1x512 .f32) (w1 : Vec Ideal S512x256 .f32)
    (b1 : Vec Ideal S1x256 .f32) (w2 : Vec Ideal S256x32 .f32) (b2 : Vec Ideal S1x32 .f32) : FVec Ideal S1x32 .f32 :=
  addf (matmul (φ₁ := .f32) (φ₂ := .f32) dot_S1x256_S256x32_S1x32_1_0_0_1_n_n none
    (maximumf (addf (matmul (φ₁ := .f32) (φ₂ := .f32) dot_S1x512_S512x256_S1x256_1_0_0_1_n_n none x
        (shapeCast S512x256 w1 shapeCasts_S512x256_S512x256) (constant S1x256 .f32 0x00000000#32))
      (shapeCast S1x256 b1 shapeCasts_S1x256_S1x256)) (broadcast S1x256 (Scalar.ofBits .f32 0x00000000#32)))
    w2 (constant S1x32 .f32 0x00000000#32)) (shapeCast S1x32 b2 shapeCasts_S1x32_S1x32)

theorem pay9_eq (K V : Vec Ideal S1024x512 .f32) (Q : Vec Ideal S1x512 .f32) (w1 : Vec Ideal S512x256 .f32)
    (b1 : Vec Ideal S1x256 .f32) (w2 : Vec Ideal S256x32 .f32) (b2 : Vec Ideal S1x32 .f32) :
    k1_pay9 K V Q k1_pay7 k1_pay8 1#32 w1 b1 w2 b2 = tl (cx (att (lgt K Q)) V) w1 b1 w2 b2 := rfl

theorem bm_apply (h : Fin 4) (e : Fin 512) : bm (ix2 h e) = ((if e.val / 128 = h.val then 1 else 0 : ℝ) : EReal) := by
  pointwise [bm, k1_pay7, k1_pay8, bm_word, bm_flag]

theorem lgt_apply (N : Net) (T : Finset (Fin 1024)) (K : Vec Ideal S1024x512 .f32) (Q : Vec Ideal S1x512 .f32)
    (hK : ∀ s e, K (ix2 s e) = (N.kk s e : EReal)) (hQ : ∀ a e, Q (ix2 a e) = (N.q T e : EReal)) (h : Fin 4) (s : Fin 1024) :
    lgt K Q (ix2 h s) = (N.al T h s : EReal) := by
  pointwise [lgt, hK, hQ, bm_apply]
  rw [scale, logit_apply]

theorem att_apply (N : Net) (T : Finset (Fin 1024)) (L : FVec Ideal S4x1024 .f32)
    (hL : ∀ h s, L (ix2 h s) = (N.al T h s : EReal)) (h : Fin 4) (s : Fin 1024) :
    att L (ix2 h s) = (N.prob T h s : EReal) := by
  pointwise [att, ex, hL]
  rw [bits_neg_inf, softmax_coe (N.al T h) s]
  rfl

theorem cx_apply (N : Net) (T : Finset (Fin 1024)) (A : FVec Ideal S4x1024 .f32) (V : Vec Ideal S1024x512 .f32)
    (hA : ∀ h s, A (ix2 h s) = (N.prob T h s : EReal)) (hV : ∀ s e, V (ix2 s e) = (N.vv s e : EReal)) (a : Fin 1) (e : Fin 512) :
    cx A V (ix2 a e) = (N.ctx T e : EReal) := by
  pointwise [cx, hA, hV, bm_apply]
  simp only [← EReal.coe_mul, ← coe_sum]
  congr 1
  rw [Finset.sum_eq_single (Net.head e)]
  · rw [if_pos rfl, mul_one]; rfl
  · intro h _ hh
    rw [if_neg (fun hc => hh (Fin.ext hc.symm)), mul_zero]
  · intro hc; exact absurd (Finset.mem_univ _) hc

/-- The attention and the last network's first two layers. -/
theorem pay9_apply (N : Net) (T : Finset (Fin 1024)) (K V : Vec Ideal S1024x512 .f32) (Q : Vec Ideal S1x512 .f32) (w1 : Vec Ideal S512x256 .f32)
    (b1 : Vec Ideal S1x256 .f32) (w2 : Vec Ideal S256x32 .f32) (b2 : Vec Ideal S1x32 .f32)
    (hK : ∀ s e, K (ix2 s e) = (N.kk s e : EReal)) (hV : ∀ s e, V (ix2 s e) = (N.vv s e : EReal))
    (hQ : ∀ a e, Q (ix2 a e) = (N.q T e : EReal))
    (hw1 : ∀ k e, w1 (ix2 k e) = ((∑ j, N.ow k j * N.p1 j e : ℝ) : EReal))
    (hb1 : ∀ a e, b1 (ix2 a e) = ∑ j, N.ob j * (N.p1 j e : EReal) + N.c1 e)
    (hw2 : ∀ k e, w2 (ix2 k e) = (N.p2 k e : EReal)) (hb2 : ∀ a e, b2 (ix2 a e) = (N.c2 e : EReal))
    (a : Fin 1) (s : Fin 32) :
    k1_pay9 K V Q k1_pay7 k1_pay8 1#32 w1 b1 w2 b2 (ix2 a s) = ∑ k, N.g1 T k * N.p2 k s + N.c2 s := by
  rw [pay9_eq]
  have hx := cx_apply N T _ V (att_apply N T _ (lgt_apply N T K Q hK hQ)) hV
  pointwise [tl, hx, hw1, hb1, hw2, hb2]
  simp only [Net.g1, Net.at0, ← fold_layers_coe]

/-- The result block. -/
theorem pay11_apply (N : Net) (T : Finset (Fin 1024)) (Z : FVec Ideal S1x32 .f32) (w3 : Vec Ideal S1x32 .f32) (b3 : Vec Ideal S1x1 .f32)
    (hZ : ∀ a s, Z (ix2 a s) = ∑ k, N.g1 T k * N.p2 k s + N.c2 s)
    (hw3 : ∀ a e, w3 (ix2 a e) = (N.p3 e : EReal)) (hb3 : ∀ a b, b3 (ix2 a b) = (N.c3 : EReal)) (a b : Fin 1) (s : Fin 1024) :
    k1_pay11 Z (k1_pay10 (F := Ideal)) w3 b3 (ix3 a b s) = (N.out T : EReal) := by
  pointwise [k1_pay11, k1_pay10, hZ, hw3, hb3]
  simp only [Net.out, Net.g2]

end Cert.KernelIdeal.Stage
-- ==== Proof.TopK.lean ====
module

public import proofs.«01_k».proof.Proof.Gen.ReferenceIdeal.Read
public import proofs.«01_k».proof.Proof.Model
public import Idealize.ShloMosaic.Lib.SortFacts
public import Idealize.ShloMosaic.Lib.Pointwise

@[expose] public section

set_option maxRecDepth 16384

noncomputable section

/-! # The largest scores, in order, and the rows read at their positions -/

namespace Cert.TopK

open Idealize.ShloMosaic

/-- Position `i` of the descending stable order of the scores `σ`. -/
def order (σ : Fin 1024 → ℝ) : Fin 1024 → Fin 1024 := sortedFrom fun k k' => decide (σ k' < σ k)

theorem order_injective (σ : Fin 1024 → ℝ) : Function.Injective (order σ) := sortedFrom_injective _

theorem order_surjective (σ : Fin 1024 → ℝ) : Function.Surjective (order σ) := sortedFrom_surjective _

/-- Later positions hold smaller scores. -/
theorem order_desc (σ : Fin 1024 → ℝ) (i j : Fin 1024) (h : i < j) : σ (order σ j) ≤ σ (order σ i) := by
  have := sortedFrom_noInversion (fun k k' => decide (σ k' < σ k)) (fun k k' => decide (σ k' < σ k))
    (fun a b hab => by simp only [decide_eq_true_eq, decide_eq_false_iff_not, not_lt] at hab ⊢; exact hab.le)
    (fun a b hab => hab)
    (fun a b c hab hbc => by simp only [decide_eq_false_iff_not, not_lt] at hab hbc ⊢; exact hab.trans hbc) i j h
  exact not_lt.mp (of_decide_eq_false this)

theorem desc_le (σ : Fin 1024 → ℝ) (i j : Fin 1024) (h : i ≤ j) : σ (order σ j) ≤ σ (order σ i) := by
  rcases h.lt_or_eq with h | rfl
  · exact order_desc σ i j h
  · exact le_rfl

/-- The 102 rows of largest score. -/
abbrev topSet (σ : Fin 1024 → ℝ) : Finset (Fin 1024) :=
  Finset.univ.image fun i : Fin 102 => order σ ⟨i.val, lt_of_lt_of_le i.isLt (by decide)⟩

/-- The gap below the 102nd score is more than the range of the scores over `8 ^ 13`. -/
def Gap (σ : Fin 1024 → ℝ) : Prop :=
  (σ (order σ ⟨0, by omega⟩) - σ (order σ ⟨1023, by omega⟩)) / 8 ^ 13 < σ (order σ ⟨101, by omega⟩) - σ (order σ ⟨102, by omega⟩)

theorem topSet_eq (σ : Fin 1024 → ℝ) : (Finset.univ.filter fun i : Fin 1024 => i.val < 102).image (order σ) = topSet σ := by
  ext s
  simp only [Finset.mem_image, Finset.mem_filter, Finset.mem_univ, true_and]
  constructor
  · rintro ⟨i, hi, rfl⟩; exact ⟨⟨i.val, hi⟩, rfl⟩
  · rintro ⟨i, rfl⟩; exact ⟨⟨i.val, lt_of_lt_of_le i.isLt (by decide)⟩, i.isLt, rfl⟩

/-- "Greater" of two reals, as the comparison's bit. -/
theorem gt_bit (a b : ℝ) : (FloatOps.cmpfTotal (F := Ideal) (φ := .f32) .gt (a : EReal) (b : EReal) == 1#1) = decide (b < a) := by
  show (Ideal.cmp CmpDirection.gt.ordered (a : EReal) (b : EReal) == 1#1) = _
  by_cases h : b < a
  · have : (b : EReal) < a := EReal.coe_lt_coe_iff.mpr h
    simp [Ideal.cmp, CmpDirection.ordered, h, this]
  · have : ¬ (b : EReal) < a := fun h' => h (EReal.coe_lt_coe_iff.mp h')
    simp [Ideal.cmp, CmpDirection.ordered, h, this]

variable {K : Nat} (hK : K ≤ 1024) (x : FVec Ideal ⟨2, ![16, 1024]⟩ .f32) (σ : Fin 16 → Fin 1024 → ℝ)
  (hx : ∀ b s, x (ix2 b s) = (σ b s : EReal))
  (h : (⟨2, ![16, 1024]⟩ : Shape).Slices (fun _ => 0) ⟨2, ![16, K]⟩)

include hx in
theorem sorter (b : Fin 16) : (sortedFrom fun k k' : Fin 1024 =>
    FloatOps.cmpfTotal (F := Ideal) (φ := .f32) .gt (x (ix2 b k)) (x (ix2 b k')) == 1#1) = order (σ b) := by
  unfold order
  congr 1
  funext k k'
  rw [hx, hx, gt_bit]

theorem along_one (J : (⟨2, ![16, 1024]⟩ : Shape).Idx) (k : Fin 1024) : J.along (1 : Fin 2) k = ix2 (J 0) k := by
  funext a
  match a with
  | ⟨0, _⟩ => rfl
  | ⟨1, _⟩ => rfl

include hx in
/-- The sorted values at an index. -/
theorem sorted_fst (y : IVec ⟨2, ![16, 1024]⟩ 32) (J : (⟨2, ![16, 1024]⟩ : Shape).Idx) :
    (Host.sort2 ⟨2, ![16, 1024]⟩ 1 (fun l r : Ideal .f32 × BitVec 32 => FloatOps.cmpfTotal (F := Ideal) (φ := .f32) .gt l.1 r.1) x y).1 J
      = x (ix2 (J 0) (order (σ (J 0)) (J 1))) := by
  rw [← sorter x σ hx (J 0)]
  unfold Host.sort2
  rw [dif_pos (by decide : 1 < 2)]
  show x (J.along (1 : Fin 2) (sortedFrom (fun k k' : Fin 1024 => FloatOps.cmpfTotal (F := Ideal) (φ := .f32) .gt
    (x (J.along (1 : Fin 2) k)) (x (J.along (1 : Fin 2) k')) == 1#1) (J 1))) = _
  simp only [along_one]
  exact congrArg x (along_one J _)

include hx in
/-- What the sort carries along, at an index. -/
theorem sorted_snd (y : IVec ⟨2, ![16, 1024]⟩ 32) (J : (⟨2, ![16, 1024]⟩ : Shape).Idx) :
    (Host.sort2 ⟨2, ![16, 1024]⟩ 1 (fun l r : Ideal .f32 × BitVec 32 => FloatOps.cmpfTotal (F := Ideal) (φ := .f32) .gt l.1 r.1) x y).2 J
      = y (ix2 (J 0) (order (σ (J 0)) (J 1))) := by
  rw [← sorter x σ hx (J 0)]
  unfold Host.sort2
  rw [dif_pos (by decide : 1 < 2)]
  show y (J.along (1 : Fin 2) (sortedFrom (fun k k' : Fin 1024 => FloatOps.cmpfTotal (F := Ideal) (φ := .f32) .gt
    (x (J.along (1 : Fin 2) k)) (x (J.along (1 : Fin 2) k')) == 1#1) (J 1))) = _
  simp only [along_one]
  exact congrArg y (along_one J _)

omit hx in
/-- Every value of the top `K` is one of the entries sorted. -/
theorem value_mem (b : Fin 16) (i : Fin K) :
    ∃ k : Fin 1024, (Host.topK ⟨2, ![16, K]⟩ 1 (FloatOps.cmpfTotal (F := Ideal) (φ := .f32) .gt) x h).1 (ix2 b i) = x (ix2 b k) := by
  let Y : IVec ⟨2, ![16, 1024]⟩ 32 := fun i => if hd : 1 < (⟨2, ![16, 1024]⟩ : Shape).rank then iotaInDim ⟨2, ![16, 1024]⟩ 32 ⟨1, hd⟩ i else 0#32
  let J : (⟨2, ![16, 1024]⟩ : Shape).Idx := fun a => ⟨0 + (ix2 b i (a.cast h.1.symm)).val,
    Nat.lt_of_lt_of_le (Nat.add_lt_add_left (ix2 b i _).isLt _) (h.2 a)⟩
  have e0 : J 0 = b := Fin.ext (Nat.zero_add _)
  have key : ∃ k : Fin 1024, (Host.sort2 ⟨2, ![16, 1024]⟩ 1 (fun l r : Ideal .f32 × BitVec 32 =>
      FloatOps.cmpfTotal (F := Ideal) (φ := .f32) .gt l.1 r.1) x Y).1 J = x (ix2 (J 0) k) := by
    unfold Host.sort2
    rw [dif_pos (by decide : 1 < 2)]
    exact ⟨_, congrArg x (along_one J _)⟩
  rw [e0] at key
  exact key

include hx in
/-- The values of the top `K`: the scores in descending order. -/
theorem values_apply (b : Fin 16) (i : Fin K) :
    (Host.topK ⟨2, ![16, K]⟩ 1 (FloatOps.cmpfTotal (F := Ideal) (φ := .f32) .gt) x h).1 (ix2 b i)
      = (σ b (order (σ b) ⟨i.val, lt_of_lt_of_le i.isLt hK⟩) : EReal) := by
  rw [← hx]
  let Y : IVec ⟨2, ![16, 1024]⟩ 32 := fun i => if hd : 1 < (⟨2, ![16, 1024]⟩ : Shape).rank then iotaInDim ⟨2, ![16, 1024]⟩ 32 ⟨1, hd⟩ i else 0#32
  let J : (⟨2, ![16, 1024]⟩ : Shape).Idx := fun a => ⟨0 + (ix2 b i (a.cast h.1.symm)).val,
    Nat.lt_of_lt_of_le (Nat.add_lt_add_left (ix2 b i _).isLt _) (h.2 a)⟩
  have e0 : J 0 = b := Fin.ext (Nat.zero_add _)
  have e1 : J 1 = ⟨i.val, lt_of_lt_of_le i.isLt hK⟩ := Fin.ext (Nat.zero_add _)
  have key := sorted_fst x σ hx Y J
  rw [e0, e1] at key
  exact key

include hx in
/-- The positions of the top `K`: those of the descending order. -/
theorem indices_apply (b : Fin 16) (i : Fin K) :
    (Host.topK ⟨2, ![16, K]⟩ 1 (FloatOps.cmpfTotal (F := Ideal) (φ := .f32) .gt) x h).2 (ix2 b i)
      = BitVec.ofNat 32 (order (σ b) ⟨i.val, lt_of_lt_of_le i.isLt hK⟩).val := by
  let Y : IVec ⟨2, ![16, 1024]⟩ 32 := fun i => if hd : 1 < (⟨2, ![16, 1024]⟩ : Shape).rank then iotaInDim ⟨2, ![16, 1024]⟩ 32 ⟨1, hd⟩ i else 0#32
  let J : (⟨2, ![16, 1024]⟩ : Shape).Idx := fun a => ⟨0 + (ix2 b i (a.cast h.1.symm)).val,
    Nat.lt_of_lt_of_le (Nat.add_lt_add_left (ix2 b i _).isLt _) (h.2 a)⟩
  have e0 : J 0 = b := Fin.ext (Nat.zero_add _)
  have e1 : J 1 = ⟨i.val, lt_of_lt_of_le i.isLt hK⟩ := Fin.ext (Nat.zero_add _)
  have key := sorted_snd x σ hx Y J
  rw [e0, e1] at key
  exact key

open Cert.ReferenceIdeal in
/-- The gather read at an index: the row its start index names, clamped into range. -/
theorem gather_apply [Cert.ReferenceIdeal.Facts] (x : FVec Ideal S16x1024x1024 .f32) (idx : IVec S16x102x1 32) (b : Fin 16) (i : Fin 102) (e : Fin 1024)
    (r : Fin 1024) (hr : idx (ix3 b i 0) = BitVec.ofNat 32 r.val) :
    Host.gather gather_S16x1024x1024_S16x102x1_S16x102x1024_2_1_0_0_1_2_111024 x idx (ix3 b i e) = x (ix3 b r e) := by
  unfold Host.gather
  congr 1
  funext a
  refine Fin.ext ?_
  set d := gather_S16x1024x1024_S16x102x1_S16x102x1024_2_1_0_0_1_2_111024 with hd
  show d.start (ix3 b i e) idx a + d.batchCoord (ix3 b i e) a + d.offCoord (ix3 b i e) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · rw [GatherDims.batchCoord_eq_zero _ _ _ (fun h => by simp [hd, gather_S16x1024x1024_S16x102x1_S16x102x1024_2_1_0_0_1_2_111024] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 b i e) ⟨List.idxOf (1 : Fin 3) d.startIndexMap,
        List.idxOf_lt_length_iff.2 (List.mem_singleton.mpr rfl)⟩ = ix3 b i 0 := by
      funext k; refine Fin.ext ?_
      match k with
      | ⟨0, _⟩ => rfl
      | ⟨1, _⟩ => rfl
      | ⟨2, _⟩ => rfl
    rw [hsi, hr]
    have h1 : (BitVec.ofNat 32 r.val).toInt.toNat = r.val := by
      rw [BitVec.toInt_eq_toNat_of_lt (by rw [BitVec.toNat_ofNat]; have := r.isLt; omega), BitVec.toNat_ofNat]
      have := r.isLt; omega
    rw [h1]
    have := r.isLt
    show min r.val (1024 - 1) = r.val
    omega
  · rw [GatherDims.batchCoord_eq_zero _ _ _ (fun h => by simp [hd, gather_S16x1024x1024_S16x102x1_S16x102x1024_2_1_0_0_1_2_111024] at h)]
    unfold GatherDims.start
    rw [dif_neg (fun h => by simp [hd, gather_S16x1024x1024_S16x102x1_S16x102x1024_2_1_0_0_1_2_111024] at h)]
    simp only [Nat.zero_add, Nat.add_zero]
    unfold GatherDims.offCoord
    rw [dif_pos ((GatherDims.mem_sKept _ _).mpr ⟨by simp [hd, gather_S16x1024x1024_S16x102x1_S16x102x1024_2_1_0_0_1_2_111024], by simp [hd, gather_S16x1024x1024_S16x102x1_S16x102x1024_2_1_0_0_1_2_111024]⟩)]
    rfl

end Cert.TopK
-- ==== Proof.KVal.lean ====
module

public import proofs.«01_k».proof.Proof.KStage
public import proofs.«01_k».proof.Proof.TopK

@[expose] public section

set_option maxRecDepth 16384

noncomputable section

/-! # What the main call stores at a point, from the blocks it reads -/

namespace Cert.KernelIdeal.Stage

open Cert.KernelIdeal Cert.KernelIdeal.Gen Idealize.ShloMosaic Cert.Model

/-- The pooled vector a point stores. -/
theorem camV_apply (N : Net) (hg : TopK.Gap N.score) (hs : ∀ s, N.preScore s = (N.score s : EReal))
    (x0 : Vec Ideal S1x1024x1024 .f32) (x2 : Vec Ideal S1024x256 .f32) (x3 : Vec Ideal S1x256 .f32) (x4 : Vec Ideal S256x32 .f32)
    (x5 x6 : Vec Ideal S1x32 .f32) (x7 : Vec Ideal S1x1 .f32) (x8 : Vec Ideal S1024x512 .f32) (x9 : Vec Ideal S1x512 .f32)
    (x10 : Vec Ideal S512x512 .f32) (x11 x12 : Vec Ideal S1x512 .f32) (x13 : Vec Ideal S1x1 .f32)
    (h0 : ∀ a s k, x0 (ix3 a s k) = (N.v s k : EReal)) (h2 : ∀ k e, x2 (ix2 k e) = (N.w1 k e : EReal))
    (h3 : ∀ a e, x3 (ix2 a e) = (N.b1 e : EReal)) (h4 : ∀ k e, x4 (ix2 k e) = (N.w2 k e : EReal))
    (h5 : ∀ a e, x5 (ix2 a e) = (N.b2 e : EReal)) (h6 : ∀ a e, x6 (ix2 a e) = (N.w3 e : EReal))
    (h7 : ∀ a b, x7 (ix2 a b) = (N.b3 : EReal)) (h8 : ∀ k e, x8 (ix2 k e) = (N.fw k e : EReal))
    (h9 : ∀ a e, x9 (ix2 a e) = (N.fb e : EReal)) (h10 : ∀ k e, x10 (ix2 k e) = (N.gw k e : EReal))
    (h11 : ∀ a e, x11 (ix2 a e) = (N.gb e : EReal)) (h12 : ∀ a e, x12 (ix2 a e) = (N.aw e : EReal))
    (h13 : ∀ a b, x13 (ix2 a b) = (N.ab : EReal)) (a b : Fin 1) (e : Fin 512) :
    Run.camV x0 x2 x3 x4 x5 x6 x7 x8 x9 x10 x11 x12 x13 (ix3 a b e) = (N.cam (TopK.topSet N.score) e : EReal) := by
  have hS : ∀ a s, Run.sc (Run.hid x0 x2 x3 x4 x5) (View.ld x6 Run.w_S1x32) (View.ld x7 Run.w_S1x1) (ix2 a s) = (N.score s : EReal) :=
    fun a s => score_apply N _ _ _ _ _ _ _ hs (fun a b d => by pointwise [h0]) (fun a b => by pointwise [h2])
      (fun a b => by pointwise [h3]) (fun a b => by pointwise [h4]) (fun a b => by pointwise [h5])
      (fun a b => by pointwise [h6]) (fun a b => by pointwise [h7]) a s
  have hC : ∀ s e, k1_pay64 (k1_pay12 (View.ld x0 Run.w_S1x1024x1024)) (View.ld x8 Run.w_S1024x512) (View.ld x9 Run.w_S1x512)
      (View.ld x10 Run.w_S512x512) (View.ld x11 Run.w_S1x512) (ix2 s e) = (N.cc s e : EReal) :=
    fun s e => cc_apply N _ _ _ _ _ (fun a b d => by pointwise [h0]) (fun a b => by pointwise [h8])
      (fun a b => by pointwise [h9]) (fun a b => by pointwise [h10]) (fun a b => by pointwise [h11]) s e
  obtain ⟨l, hl, hsel⟩ := Bisect.low_selects (Run.hid x0 x2 x3 x4 x5) (View.ld x6 Run.w_S1x32) (View.ld x7 Run.w_S1x1) N.score hS
    (TopK.order N.score) (TopK.order_injective _) (TopK.order_desc _) hg
  rw [TopK.topSet_eq] at hsel
  refine pool_apply N (TopK.topSet N.score) (TopK.order N.score ⟨0, by omega⟩)
    (Finset.mem_image.mpr ⟨⟨0, by omega⟩, Finset.mem_univ _, rfl⟩) _ _ hC (fun a s => ?_) a b e
  rw [Bisect.same13]
  refine (mlg_apply N _ _ _ _ _ l hS hl hC (fun a b => by pointwise [h12]) (fun a b => by pointwise [h13]) a s).trans ?_
  exact if_congr (hsel s) rfl rfl

/-- The keys a point stores. -/
theorem kkV_apply (N : Net) (x0 : Vec Ideal S1x1024x1024 .f32) (x1 : Vec Ideal S1x1024x512 .f32) (x16 : Vec Ideal S1536x512 .f32)
    (x17 : Vec Ideal S1x512 .f32) (h0 : ∀ a s k, x0 (ix3 a s k) = (N.v s k : EReal)) (h1 : ∀ a s k, x1 (ix3 a s k) = (N.t s k : EReal))
    (h16 : ∀ k e, x16 (ix2 k e) = ((∑ j, N.kw k j * N.iw j (Net.colK e) : ℝ) : EReal))
    (h17 : ∀ a e, x17 (ix2 a e) = ((∑ j, N.kb j * N.iw j (Net.colK e) + N.ib (Net.colK e) : ℝ) : EReal))
    (a : Fin 1) (s : Fin 1024) (e : Fin 512) : Run.kkV x0 x1 x16 x17 (ix3 a s e) = (N.kk s e : EReal) :=
  kk_apply N _ _ _ _ _ (fun a b d => by pointwise [h0]) (fun a b d => by pointwise [h1]) (fun a b => by pointwise [h16])
    (fun a b => by pointwise [h16]) (fun a b => by pointwise [h17]) a s e

/-- The values a point stores. -/
theorem vvV_apply (N : Net) (x0 : Vec Ideal S1x1024x1024 .f32) (x1 : Vec Ideal S1x1024x512 .f32) (x18 : Vec Ideal S1536x512 .f32)
    (x19 : Vec Ideal S1x512 .f32) (h0 : ∀ a s k, x0 (ix3 a s k) = (N.v s k : EReal)) (h1 : ∀ a s k, x1 (ix3 a s k) = (N.t s k : EReal))
    (h18 : ∀ k e, x18 (ix2 k e) = ((∑ j, N.vw k j * N.iw j (Net.colV e) : ℝ) : EReal))
    (h19 : ∀ a e, x19 (ix2 a e) = ((∑ j, N.vb j * N.iw j (Net.colV e) + N.ib (Net.colV e) : ℝ) : EReal))
    (a : Fin 1) (s : Fin 1024) (e : Fin 512) : Run.vvV x0 x1 x18 x19 (ix3 a s e) = (N.vv s e : EReal) :=
  vv_apply N _ _ _ _ _ (fun a b d => by pointwise [h0]) (fun a b d => by pointwise [h1]) (fun a b => by pointwise [h18])
    (fun a b => by pointwise [h18]) (fun a b => by pointwise [h19]) a s e

/-- The result block a point leaves. -/
theorem outV_apply (N : Net) (T : Finset (Fin 1024)) (z0 : Vec Ideal S1x1x512 .f32) (z1 z2 : Vec Ideal S1x1024x512 .f32)
    (x14 : Vec Ideal S512x512 .f32) (x15 : Vec Ideal S1x512 .f32) (x20 : Vec Ideal S512x256 .f32) (x21 : Vec Ideal S1x256 .f32)
    (x22 : Vec Ideal S256x32 .f32) (x23 x24 : Vec Ideal S1x32 .f32) (x25 : Vec Ideal S1x1 .f32)
    (hz0 : ∀ a b e, z0 (ix3 a b e) = (N.cam T e : EReal)) (hz1 : ∀ a s e, z1 (ix3 a s e) = (N.kk s e : EReal))
    (hz2 : ∀ a s e, z2 (ix3 a s e) = (N.vv s e : EReal))
    (h14 : ∀ k e, x14 (ix2 k e) = ((∑ j, N.qw k j * N.iw j (Net.colQ e) : ℝ) : EReal))
    (h15 : ∀ a e, x15 (ix2 a e) = ((∑ j, N.qb j * N.iw j (Net.colQ e) + N.ib (Net.colQ e) : ℝ) : EReal))
    (h20 : ∀ k e, x20 (ix2 k e) = ((∑ j, N.ow k j * N.p1 j e : ℝ) : EReal))
    (h21 : ∀ a e, x21 (ix2 a e) = ∑ j, N.ob j * (N.p1 j e : EReal) + N.c1 e)
    (h22 : ∀ k e, x22 (ix2 k e) = (N.p2 k e : EReal)) (h23 : ∀ a e, x23 (ix2 a e) = (N.c2 e : EReal))
    (h24 : ∀ a e, x24 (ix2 a e) = (N.p3 e : EReal)) (h25 : ∀ a b, x25 (ix2 a b) = (N.c3 : EReal))
    (a b : Fin 1) (s : Fin 1024) :
    Run.outV z0 z1 z2 x14 x15 x20 x21 x22 x23 x24 x25 (ix3 a b s) = (N.out T : EReal) :=
  pay11_apply N T _ _ _ (fun a s => pay9_apply N T _ _ _ _ _ _ _ (fun s e => by pointwise [k1_pay4, hz1]) (fun s e => by pointwise [k1_pay5, hz2])
      (fun a e => q_apply N T _ _ _ hz0 (fun a b => by pointwise [h14]) (fun a b => by pointwise [h15]) a e)
      (fun a b => by pointwise [h20]) (fun a b => by pointwise [h21]) (fun a b => by pointwise [h22]) (fun a b => by pointwise [h23]) a s)
    (fun a b => by pointwise [h24]) (fun a b => by pointwise [h25]) a b s

end Cert.KernelIdeal.Stage
-- ==== Proof.KArr.lean ====
module

public import proofs.«01_k».proof.Proof.IRun
public import proofs.«01_k».proof.Proof.KVal
public import Idealize.ShloMosaic.Lib.Pipeline.ValueKit

@[expose] public section

set_option maxRecDepth 16384

noncomputable section

/-! # The arrays the two kernel calls leave, over real arguments -/

namespace Cert.KernelIdeal.Arr

open Cert.KernelIdeal Cert.KernelIdeal.Gen Cert.KernelIdeal.Run Idealize.ShloMosaic Idealize.ShloMosaic.TcCoe Cert.Model
open Idealize.ShloMosaic.Pipeline (Dat Cfg Window)

/-! ## The first call: products of weights -/

/-- Every block of the first call starts at the origin. -/
theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] :=
  (by decide +kernel : ∀ t : Fin grid0.N, _)

section Fold
variable (V : (c : Dev nD) → (b : Ref sig .tc) → Buf (Elt Ideal) ((c : Thread nD τ).loc b)) (c : Dev nD) (N : Net)

/-- Output 12: the query weights through the input projection. -/
theorem fold12 (h6 : ∀ i j, V c main_arg20 (ix2 i j) = ((N.iw i j) : EReal)) (h0 : ∀ i j, V c main_arg14 (ix2 i j) = ((N.qw i j) : EReal)) (x) :
    (dat0 V c).arrAt 12 cfg0.N x = (((∑ j, N.qw (x 0) j * N.iw j (Net.colQ (x 1)) : ℝ)) : EReal) := by
  have e6 : ∀ i j, iblk0 V c 6 t0_0 (ix2 i j) = ((N.iw i j) : EReal) := fun i j => Eq.trans (by blk_ext [iblk0, idx0 t0_0]) (h6 i j)
  have e0 : ∀ i j, iblk0 V c 0 t0_0 (ix2 i j) = ((N.qw i j) : EReal) := fun i j => Eq.trans (by blk_ext [iblk0, idx0 t0_0]) (h0 i j)
  refine congrFun ((dat0 V c).arrAt_eq_of_after_last 12 t0_0 (by decide +kernel) (fun x => (((∑ j, N.qw (x 0) j * N.iw j (Net.colQ (x 1)) : ℝ)) : EReal)) fun z => ?_) x
  blk_simp
  rw [after0_12]
  unfold out0_12
  canon_tiles x y
  pointwise [k0_pay5, e6, e0]
  simp only [EReal.coe_add, EReal.coe_mul, coe_sum]
  have e1 : z 1 = x 1 := Fin.ext y1
  have e0 : z 0 = x 0 := Fin.ext y0
  simp only [e0, e1]

/-- Output 13: the query bias through the input projection. -/
theorem fold13 (h6 : ∀ i j, V c main_arg20 (ix2 i j) = ((N.iw i j) : EReal)) (h1 : ∀ i j, V c main_v0 (ix2 i j) = ((N.qb j) : EReal)) (h7 : ∀ i j, V c main_v3 (ix2 i j) = ((N.ib j) : EReal)) (x) :
    (dat0 V c).arrAt 13 cfg0.N x = (((∑ j, N.qb j * N.iw j (Net.colQ (x 1)) + N.ib (Net.colQ (x 1)) : ℝ)) : EReal) := by
  have e6 : ∀ i j, iblk0 V c 6 t0_0 (ix2 i j) = ((N.iw i j) : EReal) := fun i j => Eq.trans (by blk_ext [iblk0, idx0 t0_0]) (h6 i j)
  have e1 : ∀ i j, iblk0 V c 1 t0_0 (ix2 i j) = ((N.qb j) : EReal) := fun i j => Eq.trans (by blk_ext [iblk0, idx0 t0_0]) (h1 i j)
  have e7 : ∀ i j, iblk0 V c 7 t0_0 (ix2 i j) = ((N.ib j) : EReal) := fun i j => Eq.trans (by blk_ext [iblk0, idx0 t0_0]) (h7 i j)
  refine congrFun ((dat0 V c).arrAt_eq_of_after_last 13 t0_0 (by decide +kernel) (fun x => (((∑ j, N.qb j * N.iw j (Net.colQ (x 1)) + N.ib (Net.colQ (x 1)) : ℝ)) : EReal)) fun z => ?_) x
  blk_simp
  rw [after0_13]
  unfold out0_13
  canon_tiles x y
  pointwise [k0_pay6, e6, e1, e7]
  simp only [EReal.coe_add, EReal.coe_mul, coe_sum]
  have e1 : z 1 = x 1 := Fin.ext y1
  have e0 : z 0 = x 0 := Fin.ext y0
  simp only [e0, e1]

/-- Output 14: the key weights through the input projection. -/
theorem fold14 (h6 : ∀ i j, V c main_arg20 (ix2 i j) = ((N.iw i j) : EReal)) (h2 : ∀ i j, V c main_arg16 (ix2 i j) = ((N.kw i j) : EReal)) (x) :
    (dat0 V c).arrAt 14 cfg0.N x = (((∑ j, N.kw (x 0) j * N.iw j (Net.colK (x 1)) : ℝ)) : EReal) := by
  have e6 : ∀ i j, iblk0 V c 6 t0_0 (ix2 i j) = ((N.iw i j) : EReal) := fun i j => Eq.trans (by blk_ext [iblk0, idx0 t0_0]) (h6 i j)
  have e2 : ∀ i j, iblk0 V c 2 t0_0 (ix2 i j) = ((N.kw i j) : EReal) := fun i j => Eq.trans (by blk_ext [iblk0, idx0 t0_0]) (h2 i j)
  refine congrFun ((dat0 V c).arrAt_eq_of_after_last 14 t0_0 (by decide +kernel) (fun x => (((∑ j, N.kw (x 0) j * N.iw j (Net.colK (x 1)) : ℝ)) : EReal)) fun z => ?_) x
  blk_simp
  rw [after0_14]
  unfold out0_14
  canon_tiles x y
  pointwise [k0_pay7, e6, e2]
  simp only [EReal.coe_add, EReal.coe_mul, coe_sum]
  have e1 : z 1 = x 1 := Fin.ext y1
  have e0 : z 0 = x 0 := Fin.ext y0
  simp only [e0, e1]

/-- Output 15: the key bias through the input projection. -/
theorem fold15 (h6 : ∀ i j, V c main_arg20 (ix2 i j) = ((N.iw i j) : EReal)) (h3 : ∀ i j, V c main_v1 (ix2 i j) = ((N.kb j) : EReal)) (h7 : ∀ i j, V c main_v3 (ix2 i j) = ((N.ib j) : EReal)) (x) :
    (dat0 V c).arrAt 15 cfg0.N x = (((∑ j, N.kb j * N.iw j (Net.colK (x 1)) + N.ib (Net.colK (x 1)) : ℝ)) : EReal) := by
  have e6 : ∀ i j, iblk0 V c 6 t0_0 (ix2 i j) = ((N.iw i j) : EReal) := fun i j => Eq.trans (by blk_ext [iblk0, idx0 t0_0]) (h6 i j)
  have e3 : ∀ i j, iblk0 V c 3 t0_0 (ix2 i j) = ((N.kb j) : EReal) := fun i j => Eq.trans (by blk_ext [iblk0, idx0 t0_0]) (h3 i j)
  have e7 : ∀ i j, iblk0 V c 7 t0_0 (ix2 i j) = ((N.ib j) : EReal) := fun i j => Eq.trans (by blk_ext [iblk0, idx0 t0_0]) (h7 i j)
  refine congrFun ((dat0 V c).arrAt_eq_of_after_last 15 t0_0 (by decide +kernel) (fun x => (((∑ j, N.kb j * N.iw j (Net.colK (x 1)) + N.ib (Net.colK (x 1)) : ℝ)) : EReal)) fun z => ?_) x
  blk_simp
  rw [after0_15]
  unfold out0_15
  canon_tiles x y
  pointwise [k0_pay8, e6, e3, e7]
  simp only [EReal.coe_add, EReal.coe_mul, coe_sum]
  have e1 : z 1 = x 1 := Fin.ext y1
  have e0 : z 0 = x 0 := Fin.ext y0
  simp only [e0, e1]

/-- Output 16: the value weights through the input projection. -/
theorem fold16 (h6 : ∀ i j, V c main_arg20 (ix2 i j) = ((N.iw i j) : EReal)) (h4 : ∀ i j, V c main_arg18 (ix2 i j) = ((N.vw i j) : EReal)) (x) :
    (dat0 V c).arrAt 16 cfg0.N x = (((∑ j, N.vw (x 0) j * N.iw j (Net.colV (x 1)) : ℝ)) : EReal) := by
  have e6 : ∀ i j, iblk0 V c 6 t0_0 (ix2 i j) = ((N.iw i j) : EReal) := fun i j => Eq.trans (by blk_ext [iblk0, idx0 t0_0]) (h6 i j)
  have e4 : ∀ i j, iblk0 V c 4 t0_0 (ix2 i j) = ((N.vw i j) : EReal) := fun i j => Eq.trans (by blk_ext [iblk0, idx0 t0_0]) (h4 i j)
  refine congrFun ((dat0 V c).arrAt_eq_of_after_last 16 t0_0 (by decide +kernel) (fun x => (((∑ j, N.vw (x 0) j * N.iw j (Net.colV (x 1)) : ℝ)) : EReal)) fun z => ?_) x
  blk_simp
  rw [after0_16]
  unfold out0_16
  canon_tiles x y
  pointwise [k0_pay1, e6, e4]
  simp only [EReal.coe_add, EReal.coe_mul, coe_sum]
  have e1 : z 1 = x 1 := Fin.ext y1
  have e0 : z 0 = x 0 := Fin.ext y0
  simp only [e0, e1]

/-- Output 17: the value bias through the input projection. -/
theorem fold17 (h6 : ∀ i j, V c main_arg20 (ix2 i j) = ((N.iw i j) : EReal)) (h5 : ∀ i j, V c main_v2 (ix2 i j) = ((N.vb j) : EReal)) (h7 : ∀ i j, V c main_v3 (ix2 i j) = ((N.ib j) : EReal)) (x) :
    (dat0 V c).arrAt 17 cfg0.N x = (((∑ j, N.vb j * N.iw j (Net.colV (x 1)) + N.ib (Net.colV (x 1)) : ℝ)) : EReal) := by
  have e6 : ∀ i j, iblk0 V c 6 t0_0 (ix2 i j) = ((N.iw i j) : EReal) := fun i j => Eq.trans (by blk_ext [iblk0, idx0 t0_0]) (h6 i j)
  have e5 : ∀ i j, iblk0 V c 5 t0_0 (ix2 i j) = ((N.vb j) : EReal) := fun i j => Eq.trans (by blk_ext [iblk0, idx0 t0_0]) (h5 i j)
  have e7 : ∀ i j, iblk0 V c 7 t0_0 (ix2 i j) = ((N.ib j) : EReal) := fun i j => Eq.trans (by blk_ext [iblk0, idx0 t0_0]) (h7 i j)
  refine congrFun ((dat0 V c).arrAt_eq_of_after_last 17 t0_0 (by decide +kernel) (fun x => (((∑ j, N.vb j * N.iw j (Net.colV (x 1)) + N.ib (Net.colV (x 1)) : ℝ)) : EReal)) fun z => ?_) x
  blk_simp
  rw [after0_17]
  unfold out0_17
  canon_tiles x y
  pointwise [k0_pay2, e6, e5, e7]
  simp only [EReal.coe_add, EReal.coe_mul, coe_sum]
  have e1 : z 1 = x 1 := Fin.ext y1
  have e0 : z 0 = x 0 := Fin.ext y0
  simp only [e0, e1]

/-- Output 18: the output projection through the first layer after it. -/
theorem fold18 (h8 : ∀ i j, V c main_arg22 (ix2 i j) = ((N.ow i j) : EReal)) (h10 : ∀ i j, V c main_arg24 (ix2 i j) = ((N.p1 i j) : EReal)) (x) :
    (dat0 V c).arrAt 18 cfg0.N x = (((∑ j, N.ow (x 0) j * N.p1 j (x 1) : ℝ)) : EReal) := by
  have e8 : ∀ i j, iblk0 V c 8 t0_0 (ix2 i j) = ((N.ow i j) : EReal) := fun i j => Eq.trans (by blk_ext [iblk0, idx0 t0_0]) (h8 i j)
  have e10 : ∀ i j, iblk0 V c 10 t0_0 (ix2 i j) = ((N.p1 i j) : EReal) := fun i j => Eq.trans (by blk_ext [iblk0, idx0 t0_0]) (h10 i j)
  refine congrFun ((dat0 V c).arrAt_eq_of_after_last 18 t0_0 (by decide +kernel) (fun x => (((∑ j, N.ow (x 0) j * N.p1 j (x 1) : ℝ)) : EReal)) fun z => ?_) x
  blk_simp
  rw [after0_18]
  unfold out0_18
  canon_tiles x y
  pointwise [k0_pay3, e8, e10]
  simp only [EReal.coe_add, EReal.coe_mul, coe_sum]
  have e1 : z 1 = x 1 := Fin.ext y1
  have e0 : z 0 = x 0 := Fin.ext y0
  simp only [e0, e1]

/-- Output 19: the output projection's bias through the first layer after it. -/
theorem fold19 (h9 : ∀ i j, V c main_v4 (ix2 i j) = ((N.ob j) : EReal)) (h10 : ∀ i j, V c main_arg24 (ix2 i j) = ((N.p1 i j) : EReal)) (h11 : ∀ i j, V c main_v5 (ix2 i j) = ((N.c1 j) : EReal)) (x) :
    (dat0 V c).arrAt 19 cfg0.N x = ∑ j, N.ob j * (N.p1 j (x 1) : EReal) + N.c1 (x 1) := by
  have e9 : ∀ i j, iblk0 V c 9 t0_0 (ix2 i j) = ((N.ob j) : EReal) := fun i j => Eq.trans (by blk_ext [iblk0, idx0 t0_0]) (h9 i j)
  have e10 : ∀ i j, iblk0 V c 10 t0_0 (ix2 i j) = ((N.p1 i j) : EReal) := fun i j => Eq.trans (by blk_ext [iblk0, idx0 t0_0]) (h10 i j)
  have e11 : ∀ i j, iblk0 V c 11 t0_0 (ix2 i j) = ((N.c1 j) : EReal) := fun i j => Eq.trans (by blk_ext [iblk0, idx0 t0_0]) (h11 i j)
  refine congrFun ((dat0 V c).arrAt_eq_of_after_last 19 t0_0 (by decide +kernel) (fun x => ∑ j, N.ob j * (N.p1 j (x 1) : EReal) + N.c1 (x 1)) fun z => ?_) x
  blk_simp
  rw [after0_19]
  unfold out0_19
  canon_tiles x y
  pointwise [k0_pay4, e9, e10, e11]
  have e1 : z 1 = x 1 := Fin.ext y1
  have e0 : z 0 = x 0 := Fin.ext y0
  simp only [e0, e1]

end Fold

end Cert.KernelIdeal.Arr
-- ==== Proof.KMainArr.lean ====
module

public import proofs.«01_k».proof.Proof.IRun
public import proofs.«01_k».proof.Proof.KVal
public import Idealize.ShloMosaic.Lib.Pipeline.ValueKit

@[expose] public section

set_option maxRecDepth 16384

noncomputable section

/-! # The array the second kernel call leaves, over the arguments of the networks -/

namespace Cert.KernelIdeal.Arr

open Cert.KernelIdeal Cert.KernelIdeal.Gen Cert.KernelIdeal.Run Cert.KernelIdeal.Stage Idealize.ShloMosaic Idealize.ShloMosaic.TcCoe Cert.Model
open Idealize.ShloMosaic.Pipeline (Dat Cfg Window)

/-! ## The second call -/

section Main
variable (V : (c : Dev nD) → (b : Ref sig .tc) → Buf (Elt Ideal) ((c : Thread nD τ).loc b)) (c : Dev nD) (N : Fin 16 → Net)

/-- The arrays the second call is given, read as the networks `N b`. -/
structure Ops : Prop where
  h0 : ∀ b i j, V c main_arg0 (ix3 b i j) = ((N b).v i j : EReal)
  h1 : ∀ b i j, V c main_arg1 (ix3 b i j) = ((N b).t i j : EReal)
  h2 : ∀ b i j, V c main_arg2 (ix2 i j) = ((N b).w1 i j : EReal)
  h3 : ∀ b i j, V c main_v7 (ix2 i j) = ((N b).b1 j : EReal)
  h4 : ∀ b i j, V c main_arg4 (ix2 i j) = ((N b).w2 i j : EReal)
  h5 : ∀ b i j, V c main_v8 (ix2 i j) = ((N b).b2 j : EReal)
  h6 : ∀ b i j, V c main_v9 (ix2 i j) = ((N b).w3 j : EReal)
  h7 : ∀ b i j, V c main_v10 (ix2 i j) = ((N b).b3 : EReal)
  h8 : ∀ b i j, V c main_arg8 (ix2 i j) = ((N b).fw i j : EReal)
  h9 : ∀ b i j, V c main_v11 (ix2 i j) = ((N b).fb j : EReal)
  h10 : ∀ b i j, V c main_arg10 (ix2 i j) = ((N b).gw i j : EReal)
  h11 : ∀ b i j, V c main_v12 (ix2 i j) = ((N b).gb j : EReal)
  h12 : ∀ b i j, V c main_v13 (ix2 i j) = ((N b).aw j : EReal)
  h13 : ∀ b i j, V c main_v14 (ix2 i j) = ((N b).ab : EReal)
  h14 : ∀ b i j, V c main_v6_0 (ix2 i j) = ((∑ k, (N b).qw i k * (N b).iw k (Net.colQ j) : ℝ) : EReal)
  h15 : ∀ b i j, V c main_v6_1 (ix2 i j) = ((∑ k, (N b).qb k * (N b).iw k (Net.colQ j) + (N b).ib (Net.colQ j) : ℝ) : EReal)
  h16 : ∀ b i j, V c main_v6_2 (ix2 i j) = ((∑ k, (N b).kw i k * (N b).iw k (Net.colK j) : ℝ) : EReal)
  h17 : ∀ b i j, V c main_v6_3 (ix2 i j) = ((∑ k, (N b).kb k * (N b).iw k (Net.colK j) + (N b).ib (Net.colK j) : ℝ) : EReal)
  h18 : ∀ b i j, V c main_v6_4 (ix2 i j) = ((∑ k, (N b).vw i k * (N b).iw k (Net.colV j) : ℝ) : EReal)
  h19 : ∀ b i j, V c main_v6_5 (ix2 i j) = ((∑ k, (N b).vb k * (N b).iw k (Net.colV j) + (N b).ib (Net.colV j) : ℝ) : EReal)
  h20 : ∀ b i j, V c main_v6_6 (ix2 i j) = ((∑ k, (N b).ow i k * (N b).p1 k j : ℝ) : EReal)
  h21 : ∀ b i j, V c main_v6_7 (ix2 i j) = ∑ k, (N b).ob k * ((N b).p1 k j : EReal) + (N b).c1 j
  h22 : ∀ b i j, V c main_arg26 (ix2 i j) = ((N b).p2 i j : EReal)
  h23 : ∀ b i j, V c main_v15 (ix2 i j) = ((N b).c2 j : EReal)
  h24 : ∀ b i j, V c main_v16 (ix2 i j) = ((N b).p3 j : EReal)
  h25 : ∀ b i j, V c main_v17 (ix2 i j) = ((N b).c3 : EReal)
  hs : ∀ b s, (N b).preScore s = ((N b).score s : EReal)

variable {V c N} (O : Ops V c N)

/-- The batch a point computes for. -/
def bat (t : Fin cfg1.N) : Fin 16 := ⟨min t.val 15, by omega⟩

/-- Where the blocks of the second call start: the two inputs' at the point's batch, the result's at the batch before. -/
theorem idx1 : ∀ t : Fin cfg1.N, win1_0.index t = ![min t.val 15, 0, 0] ∧ win1_1.index t = ![min t.val 15, 0, 0] ∧ win1_26.index t = ![t.val - 1, 0, 0] :=
  (by decide +kernel : ∀ t : Fin grid1.N, _)

/-- Every other block starts at the origin. -/
theorem idx1a : ∀ t : Fin cfg1.N, win1_2.index t = ![0, 0] ∧ win1_3.index t = ![0, 0] ∧ win1_4.index t = ![0, 0] ∧ win1_5.index t = ![0, 0] ∧ win1_6.index t = ![0, 0] ∧ win1_7.index t = ![0, 0] ∧ win1_8.index t = ![0, 0] ∧ win1_9.index t = ![0, 0] ∧ win1_10.index t = ![0, 0] ∧ win1_11.index t = ![0, 0] ∧ win1_12.index t = ![0, 0] ∧ win1_13.index t = ![0, 0] :=
  (by decide +kernel : ∀ t : Fin grid1.N, _)

/-- Every other block starts at the origin. -/
theorem idx1b : ∀ t : Fin cfg1.N, win1_14.index t = ![0, 0] ∧ win1_15.index t = ![0, 0] ∧ win1_16.index t = ![0, 0] ∧ win1_17.index t = ![0, 0] ∧ win1_18.index t = ![0, 0] ∧ win1_19.index t = ![0, 0] ∧ win1_20.index t = ![0, 0] ∧ win1_21.index t = ![0, 0] ∧ win1_22.index t = ![0, 0] ∧ win1_23.index t = ![0, 0] ∧ win1_24.index t = ![0, 0] ∧ win1_25.index t = ![0, 0] :=
  (by decide +kernel : ∀ t : Fin grid1.N, _)

include O in
theorem read0 (t : Fin cfg1.N) (a i j) : iblk1 V c 0 t (ix3 a i j) = ((N (bat t)).v i j : EReal) :=
  Eq.trans (by blk_ext [iblk1, idx1 t, bat]) (O.h0 (bat t) i j)
include O in
theorem read1 (t : Fin cfg1.N) (a i j) : iblk1 V c 1 t (ix3 a i j) = ((N (bat t)).t i j : EReal) :=
  Eq.trans (by blk_ext [iblk1, idx1 t, bat]) (O.h1 (bat t) i j)
include O in
theorem read2 (b : Fin 16) (t : Fin cfg1.N) (i j) : iblk1 V c 2 t (ix2 i j) = ((N b).w1 i j : EReal) :=
  Eq.trans (by blk_ext [iblk1, idx1a t]) (O.h2 b i j)
include O in
theorem read3 (b : Fin 16) (t : Fin cfg1.N) (i j) : iblk1 V c 3 t (ix2 i j) = ((N b).b1 j : EReal) :=
  Eq.trans (by blk_ext [iblk1, idx1a t]) (O.h3 b i j)
include O in
theorem read4 (b : Fin 16) (t : Fin cfg1.N) (i j) : iblk1 V c 4 t (ix2 i j) = ((N b).w2 i j : EReal) :=
  Eq.trans (by blk_ext [iblk1, idx1a t]) (O.h4 b i j)
include O in
theorem read5 (b : Fin 16) (t : Fin cfg1.N) (i j) : iblk1 V c 5 t (ix2 i j) = ((N b).b2 j : EReal) :=
  Eq.trans (by blk_ext [iblk1, idx1a t]) (O.h5 b i j)
include O in
theorem read6 (b : Fin 16) (t : Fin cfg1.N) (i j) : iblk1 V c 6 t (ix2 i j) = ((N b).w3 j : EReal) :=
  Eq.trans (by blk_ext [iblk1, idx1a t]) (O.h6 b i j)
include O in
theorem read7 (b : Fin 16) (t : Fin cfg1.N) (i j) : iblk1 V c 7 t (ix2 i j) = ((N b).b3 : EReal) :=
  Eq.trans (by blk_ext [iblk1, idx1a t]) (O.h7 b i j)
include O in
theorem read8 (b : Fin 16) (t : Fin cfg1.N) (i j) : iblk1 V c 8 t (ix2 i j) = ((N b).fw i j : EReal) :=
  Eq.trans (by blk_ext [iblk1, idx1a t]) (O.h8 b i j)
include O in
theorem read9 (b : Fin 16) (t : Fin cfg1.N) (i j) : iblk1 V c 9 t (ix2 i j) = ((N b).fb j : EReal) :=
  Eq.trans (by blk_ext [iblk1, idx1a t]) (O.h9 b i j)
include O in
theorem read10 (b : Fin 16) (t : Fin cfg1.N) (i j) : iblk1 V c 10 t (ix2 i j) = ((N b).gw i j : EReal) :=
  Eq.trans (by blk_ext [iblk1, idx1a t]) (O.h10 b i j)
include O in
theorem read11 (b : Fin 16) (t : Fin cfg1.N) (i j) : iblk1 V c 11 t (ix2 i j) = ((N b).gb j : EReal) :=
  Eq.trans (by blk_ext [iblk1, idx1a t]) (O.h11 b i j)
include O in
theorem read12 (b : Fin 16) (t : Fin cfg1.N) (i j) : iblk1 V c 12 t (ix2 i j) = ((N b).aw j : EReal) :=
  Eq.trans (by blk_ext [iblk1, idx1a t]) (O.h12 b i j)
include O in
theorem read13 (b : Fin 16) (t : Fin cfg1.N) (i j) : iblk1 V c 13 t (ix2 i j) = ((N b).ab : EReal) :=
  Eq.trans (by blk_ext [iblk1, idx1a t]) (O.h13 b i j)
include O in
theorem read14 (b : Fin 16) (t : Fin cfg1.N) (i j) : iblk1 V c 14 t (ix2 i j) = ((∑ k, (N b).qw i k * (N b).iw k (Net.colQ j) : ℝ) : EReal) :=
  Eq.trans (by blk_ext [iblk1, idx1b t]) (O.h14 b i j)
include O in
theorem read15 (b : Fin 16) (t : Fin cfg1.N) (i j) : iblk1 V c 15 t (ix2 i j) = ((∑ k, (N b).qb k * (N b).iw k (Net.colQ j) + (N b).ib (Net.colQ j) : ℝ) : EReal) :=
  Eq.trans (by blk_ext [iblk1, idx1b t]) (O.h15 b i j)
include O in
theorem read16 (b : Fin 16) (t : Fin cfg1.N) (i j) : iblk1 V c 16 t (ix2 i j) = ((∑ k, (N b).kw i k * (N b).iw k (Net.colK j) : ℝ) : EReal) :=
  Eq.trans (by blk_ext [iblk1, idx1b t]) (O.h16 b i j)
include O in
theorem read17 (b : Fin 16) (t : Fin cfg1.N) (i j) : iblk1 V c 17 t (ix2 i j) = ((∑ k, (N b).kb k * (N b).iw k (Net.colK j) + (N b).ib (Net.colK j) : ℝ) : EReal) :=
  Eq.trans (by blk_ext [iblk1, idx1b t]) (O.h17 b i j)
include O in
theorem read18 (b : Fin 16) (t : Fin cfg1.N) (i j) : iblk1 V c 18 t (ix2 i j) = ((∑ k, (N b).vw i k * (N b).iw k (Net.colV j) : ℝ) : EReal) :=
  Eq.trans (by blk_ext [iblk1, idx1b t]) (O.h18 b i j)
include O in
theorem read19 (b : Fin 16) (t : Fin cfg1.N) (i j) : iblk1 V c 19 t (ix2 i j) = ((∑ k, (N b).vb k * (N b).iw k (Net.colV j) + (N b).ib (Net.colV j) : ℝ) : EReal) :=
  Eq.trans (by blk_ext [iblk1, idx1b t]) (O.h19 b i j)
include O in
theorem read20 (b : Fin 16) (t : Fin cfg1.N) (i j) : iblk1 V c 20 t (ix2 i j) = ((∑ k, (N b).ow i k * (N b).p1 k j : ℝ) : EReal) :=
  Eq.trans (by blk_ext [iblk1, idx1b t]) (O.h20 b i j)
include O in
theorem read21 (b : Fin 16) (t : Fin cfg1.N) (i j) : iblk1 V c 21 t (ix2 i j) = ∑ k, (N b).ob k * ((N b).p1 k j : EReal) + (N b).c1 j :=
  Eq.trans (by blk_ext [iblk1, idx1b t]) (O.h21 b i j)
include O in
theorem read22 (b : Fin 16) (t : Fin cfg1.N) (i j) : iblk1 V c 22 t (ix2 i j) = ((N b).p2 i j : EReal) :=
  Eq.trans (by blk_ext [iblk1, idx1b t]) (O.h22 b i j)
include O in
theorem read23 (b : Fin 16) (t : Fin cfg1.N) (i j) : iblk1 V c 23 t (ix2 i j) = ((N b).c2 j : EReal) :=
  Eq.trans (by blk_ext [iblk1, idx1b t]) (O.h23 b i j)
include O in
theorem read24 (b : Fin 16) (t : Fin cfg1.N) (i j) : iblk1 V c 24 t (ix2 i j) = ((N b).p3 j : EReal) :=
  Eq.trans (by blk_ext [iblk1, idx1b t]) (O.h24 b i j)
include O in
theorem read25 (b : Fin 16) (t : Fin cfg1.N) (i j) : iblk1 V c 25 t (ix2 i j) = ((N b).c3 : EReal) :=
  Eq.trans (by blk_ext [iblk1, idx1b t]) (O.h25 b i j)

include O in
/-- The result array: each batch's result. -/
theorem main26 (hg : ∀ b, TopK.Gap (N b).score) (x) : (dat1 V c).arrAt 26 cfg1.N x
    = ((N (x 0)).out (TopK.topSet (N (x 0)).score) : EReal) := by
  refine congrFun ((dat1 V c).arrAt_eq_of_covers 26 (fun x => ((N (x 0)).out (TopK.topSet (N (x 0)).score) : EReal))
    (by decide +kernel) fun t hf y => ?_) x
  blk_simp
  rw [after1_26]
  unfold outAt
  canon_tiles y z
  rename_i y'
  have hy : y = ix3 (y 0) (y 1) (y 2) := by
    funext a
    match a with
    | ⟨0, _⟩ => rfl
    | ⟨1, _⟩ => rfl
    | ⟨2, _⟩ => rfl
  have h0 := flush26_ne t hf
  have ht := t.isLt
  have hb : ((win1_26.blk t).view.emb y' 0 : Fin 16) = bat (prevPt t) := by
    refine Fin.ext ?_
    blk_simp [idx1 t, bat, prevPt]
    show t.val - 1 = min (t.val - 1) 15
    have h17 : t.val < 17 := ht
    omega
  rw [hb, hy]
  set b := bat (prevPt t) with hbd
  exact outV_apply (N b) _ _ _ _ _ _ _ _ _ _ _ _
    (fun a b' e => camV_apply (N b) (hg b) (O.hs b) _ _ _ _ _ _ _ _ _ _ _ _ _ (read0 O _) (read2 O b _) (read3 O b _) (read4 O b _) (read5 O b _)
      (read6 O b _) (read7 O b _) (read8 O b _) (read9 O b _) (read10 O b _) (read11 O b _) (read12 O b _) (read13 O b _) a b' e)
    (fun a s e => kkV_apply (N b) _ _ _ _ (read0 O _) (read1 O _) (read16 O b _) (read17 O b _) a s e)
    (fun a s e => vvV_apply (N b) _ _ _ _ (read0 O _) (read1 O _) (read18 O b _) (read19 O b _) a s e)
    (read14 O b _) (read15 O b _) (read20 O b _) (read21 O b _) (read22 O b _) (read23 O b _) (read24 O b _) (read25 O b _) _ _ _

end Main

end Cert.KernelIdeal.Arr
-- ==== Proof.KFinal.lean ====
module

public import proofs.«01_k».proof.Proof.KArr
public import proofs.«01_k».proof.Proof.KMainArr
public import Idealize.ShloMosaic.Lib.Claim

@[expose] public section

set_option maxRecDepth 16384
set_option maxHeartbeats 1000000

noncomputable section

/-! # The kernel's result over the arguments of the networks -/

namespace Cert.KernelIdeal.Arr

open Cert.KernelIdeal Cert.KernelIdeal.Gen Cert.KernelIdeal.Run Idealize.ShloMosaic Idealize.ShloMosaic.TcCoe Cert.Model

variable (m : (ℓ : Loc nD τ sig) → Buf (Elt Ideal) ℓ) (ρ : Dev nD → PrngReg) (c : Dev nD)

/-! ## The reshaped operands -/

theorem op0 (a e) : V1 m ρ c main_v0 (ix2 a e) = m ((c : Thread nD τ).loc main_arg15) (ix1 e) := by
  show StableHlo.after hostOps0 (W0 m ρ c) main_v0 (ix2 a e) = _
  entry_read
  rw [W0_args m ρ c main_arg15 (by decide)]
  pointwise

theorem op1 (a e) : V1 m ρ c main_v1 (ix2 a e) = m ((c : Thread nD τ).loc main_arg17) (ix1 e) := by
  show StableHlo.after hostOps0 (W0 m ρ c) main_v1 (ix2 a e) = _
  entry_read
  rw [W0_args m ρ c main_arg17 (by decide)]
  pointwise

theorem op2 (a e) : V1 m ρ c main_v2 (ix2 a e) = m ((c : Thread nD τ).loc main_arg19) (ix1 e) := by
  show StableHlo.after hostOps0 (W0 m ρ c) main_v2 (ix2 a e) = _
  entry_read
  rw [W0_args m ρ c main_arg19 (by decide)]
  pointwise

theorem op3 (a e) : V1 m ρ c main_v3 (ix2 a e) = m ((c : Thread nD τ).loc main_arg21) (ix1 e) := by
  show StableHlo.after hostOps0 (W0 m ρ c) main_v3 (ix2 a e) = _
  entry_read
  rw [W0_args m ρ c main_arg21 (by decide)]
  pointwise

theorem op4 (a e) : V1 m ρ c main_v4 (ix2 a e) = m ((c : Thread nD τ).loc main_arg23) (ix1 e) := by
  show StableHlo.after hostOps0 (W0 m ρ c) main_v4 (ix2 a e) = _
  entry_read
  rw [W0_args m ρ c main_arg23 (by decide)]
  pointwise

theorem op5 (a e) : V1 m ρ c main_v5 (ix2 a e) = m ((c : Thread nD τ).loc main_arg25) (ix1 e) := by
  show StableHlo.after hostOps0 (W0 m ρ c) main_v5 (ix2 a e) = _
  entry_read
  rw [W0_args m ρ c main_arg25 (by decide)]
  pointwise

theorem op7 (a e) : V3 m ρ c main_v7 (ix2 a e) = m ((c : Thread nD τ).loc main_arg3) (ix1 e) := by
  show StableHlo.after hostOps1 (W2 m ρ c) main_v7 (ix2 a e) = _
  entry_read
  rw [W2_args m ρ c main_arg3 (by decide)]
  pointwise

theorem op8 (a e) : V3 m ρ c main_v8 (ix2 a e) = m ((c : Thread nD τ).loc main_arg5) (ix1 e) := by
  show StableHlo.after hostOps1 (W2 m ρ c) main_v8 (ix2 a e) = _
  entry_read
  rw [W2_args m ρ c main_arg5 (by decide)]
  pointwise

theorem op9 (a e) : V3 m ρ c main_v9 (ix2 a e) = m ((c : Thread nD τ).loc main_arg6) (ix2 e 0) := by
  show StableHlo.after hostOps1 (W2 m ρ c) main_v9 (ix2 a e) = _
  entry_read
  rw [W2_args m ρ c main_arg6 (by decide)]
  pointwise

theorem op10 (a e) : V3 m ρ c main_v10 (ix2 a e) = m ((c : Thread nD τ).loc main_arg7) (ix1 0) := by
  show StableHlo.after hostOps1 (W2 m ρ c) main_v10 (ix2 a e) = _
  entry_read
  rw [W2_args m ρ c main_arg7 (by decide)]
  pointwise

theorem op11 (a e) : V3 m ρ c main_v11 (ix2 a e) = m ((c : Thread nD τ).loc main_arg9) (ix1 e) := by
  show StableHlo.after hostOps1 (W2 m ρ c) main_v11 (ix2 a e) = _
  entry_read
  rw [W2_args m ρ c main_arg9 (by decide)]
  pointwise

theorem op12 (a e) : V3 m ρ c main_v12 (ix2 a e) = m ((c : Thread nD τ).loc main_arg11) (ix1 e) := by
  show StableHlo.after hostOps1 (W2 m ρ c) main_v12 (ix2 a e) = _
  entry_read
  rw [W2_args m ρ c main_arg11 (by decide)]
  pointwise

theorem op13 (a e) : V3 m ρ c main_v13 (ix2 a e) = m ((c : Thread nD τ).loc main_arg12) (ix2 e 0) := by
  show StableHlo.after hostOps1 (W2 m ρ c) main_v13 (ix2 a e) = _
  entry_read
  rw [W2_args m ρ c main_arg12 (by decide)]
  pointwise

theorem op14 (a e) : V3 m ρ c main_v14 (ix2 a e) = m ((c : Thread nD τ).loc main_arg13) (ix1 0) := by
  show StableHlo.after hostOps1 (W2 m ρ c) main_v14 (ix2 a e) = _
  entry_read
  rw [W2_args m ρ c main_arg13 (by decide)]
  pointwise

theorem op15 (a e) : V3 m ρ c main_v15 (ix2 a e) = m ((c : Thread nD τ).loc main_arg27) (ix1 e) := by
  show StableHlo.after hostOps1 (W2 m ρ c) main_v15 (ix2 a e) = _
  entry_read
  rw [W2_args m ρ c main_arg27 (by decide)]
  pointwise

theorem op16 (a e) : V3 m ρ c main_v16 (ix2 a e) = m ((c : Thread nD τ).loc main_arg28) (ix2 e 0) := by
  show StableHlo.after hostOps1 (W2 m ρ c) main_v16 (ix2 a e) = _
  entry_read
  rw [W2_args m ρ c main_arg28 (by decide)]
  pointwise

theorem op17 (a e) : V3 m ρ c main_v17 (ix2 a e) = m ((c : Thread nD τ).loc main_arg29) (ix1 0) := by
  show StableHlo.after hostOps1 (W2 m ρ c) main_v17 (ix2 a e) = _
  entry_read
  rw [W2_args m ρ c main_arg29 (by decide)]
  pointwise

variable (N : Fin 16 → Net)
  (R : Reads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) N)

include R in
/-- The arrays the second call is given. -/
theorem ops : Ops (V3 m ρ) c N := by
  have f0 := fun b i j => (congrFun (W3_args m ρ c main_arg0 (by decide)) (ix3 b i j)).trans (R.h0 b i j)
  have f1 := fun b i j => (congrFun (W3_args m ρ c main_arg1 (by decide)) (ix3 b i j)).trans (R.h1 b i j)
  have f2 := fun b i j => (congrFun (W3_args m ρ c main_arg2 (by decide)) (ix2 i j)).trans (R.h2 b i j)
  have f3 := fun b i j => (op7 m ρ c i j).trans (R.h3 b j)
  have f4 := fun b i j => (congrFun (W3_args m ρ c main_arg4 (by decide)) (ix2 i j)).trans (R.h4 b i j)
  have f5 := fun b i j => (op8 m ρ c i j).trans (R.h5 b j)
  have f6 := fun b i j => (op9 m ρ c i j).trans (R.h6 b j 0)
  have f7 := fun b i j => (op10 m ρ c i j).trans (R.h7 b 0)
  have f8 := fun b i j => (congrFun (W3_args m ρ c main_arg8 (by decide)) (ix2 i j)).trans (R.h8 b i j)
  have f9 := fun b i j => (op11 m ρ c i j).trans (R.h9 b j)
  have f10 := fun b i j => (congrFun (W3_args m ρ c main_arg10 (by decide)) (ix2 i j)).trans (R.h10 b i j)
  have f11 := fun b i j => (op12 m ρ c i j).trans (R.h11 b j)
  have f12 := fun b i j => (op13 m ρ c i j).trans (R.h12 b j 0)
  have f13 := fun b i j => (op14 m ρ c i j).trans (R.h13 b 0)
  have f14 := fun b i j => (congrFun ((W3_of m ρ c main_v6_0 (by decide)).trans (W2_arr m ρ c 12)) (ix2 i j)).trans
      (fold12 (V1 m ρ) c (N b)
        (fun i j => (congrFun (W1_args m ρ c main_arg20 (by decide)) (ix2 i j)).trans (R.h20 b i j))
        (fun i j => (congrFun (W1_args m ρ c main_arg14 (by decide)) (ix2 i j)).trans (R.h14 b i j)) (ix2 i j))
  have f15 := fun b i j => (congrFun ((W3_of m ρ c main_v6_1 (by decide)).trans (W2_arr m ρ c 13)) (ix2 i j)).trans
      (fold13 (V1 m ρ) c (N b)
        (fun i j => (congrFun (W1_args m ρ c main_arg20 (by decide)) (ix2 i j)).trans (R.h20 b i j))
        (fun i j => (op0 m ρ c i j).trans (R.h15 b j))
        (fun i j => (op3 m ρ c i j).trans (R.h21 b j)) (ix2 i j))
  have f16 := fun b i j => (congrFun ((W3_of m ρ c main_v6_2 (by decide)).trans (W2_arr m ρ c 14)) (ix2 i j)).trans
      (fold14 (V1 m ρ) c (N b)
        (fun i j => (congrFun (W1_args m ρ c main_arg20 (by decide)) (ix2 i j)).trans (R.h20 b i j))
        (fun i j => (congrFun (W1_args m ρ c main_arg16 (by decide)) (ix2 i j)).trans (R.h16 b i j)) (ix2 i j))
  have f17 := fun b i j => (congrFun ((W3_of m ρ c main_v6_3 (by decide)).trans (W2_arr m ρ c 15)) (ix2 i j)).trans
      (fold15 (V1 m ρ) c (N b)
        (fun i j => (congrFun (W1_args m ρ c main_arg20 (by decide)) (ix2 i j)).trans (R.h20 b i j))
        (fun i j => (op1 m ρ c i j).trans (R.h17 b j))
        (fun i j => (op3 m ρ c i j).trans (R.h21 b j)) (ix2 i j))
  have f18 := fun b i j => (congrFun ((W3_of m ρ c main_v6_4 (by decide)).trans (W2_arr m ρ c 16)) (ix2 i j)).trans
      (fold16 (V1 m ρ) c (N b)
        (fun i j => (congrFun (W1_args m ρ c main_arg20 (by decide)) (ix2 i j)).trans (R.h20 b i j))
        (fun i j => (congrFun (W1_args m ρ c main_arg18 (by decide)) (ix2 i j)).trans (R.h18 b i j)) (ix2 i j))
  have f19 := fun b i j => (congrFun ((W3_of m ρ c main_v6_5 (by decide)).trans (W2_arr m ρ c 17)) (ix2 i j)).trans
      (fold17 (V1 m ρ) c (N b)
        (fun i j => (congrFun (W1_args m ρ c main_arg20 (by decide)) (ix2 i j)).trans (R.h20 b i j))
        (fun i j => (op2 m ρ c i j).trans (R.h19 b j))
        (fun i j => (op3 m ρ c i j).trans (R.h21 b j)) (ix2 i j))
  have f20 := fun b i j => (congrFun ((W3_of m ρ c main_v6_6 (by decide)).trans (W2_arr m ρ c 18)) (ix2 i j)).trans
      (fold18 (V1 m ρ) c (N b)
        (fun i j => (congrFun (W1_args m ρ c main_arg22 (by decide)) (ix2 i j)).trans (R.h22 b i j))
        (fun i j => (congrFun (W1_args m ρ c main_arg24 (by decide)) (ix2 i j)).trans (R.h24 b i j)) (ix2 i j))
  have f21 := fun b i j => (congrFun ((W3_of m ρ c main_v6_7 (by decide)).trans (W2_arr m ρ c 19)) (ix2 i j)).trans
      (fold19 (V1 m ρ) c (N b)
        (fun i j => (op4 m ρ c i j).trans (R.h23 b j))
        (fun i j => (congrFun (W1_args m ρ c main_arg24 (by decide)) (ix2 i j)).trans (R.h24 b i j))
        (fun i j => (op5 m ρ c i j).trans (R.h25 b j)) (ix2 i j))
  have f22 := fun b i j => (congrFun (W3_args m ρ c main_arg26 (by decide)) (ix2 i j)).trans (R.h26 b i j)
  have f23 := fun b i j => (op15 m ρ c i j).trans (R.h27 b j)
  have f24 := fun b i j => (op16 m ρ c i j).trans (R.h28 b j 0)
  have f25 := fun b i j => (op17 m ρ c i j).trans (R.h29 b 0)
  exact ⟨f0, f1, f2, f3, f4, f5, f6, f7, f8, f9, f10, f11, f12, f13, f14, f15, f16, f17, f18, f19, f20, f21, f22, f23, f24, f25, R.hs⟩

include R in
/-- The kernel's result. -/
theorem result (hg : ∀ b, TopK.Gap (N b).score) (b : Fin 16) (s : Fin 1024) :
    W5 m ρ c (Proc.devRef .tc main_v19) (ix2 b s) = ((N b).out (TopK.topSet (N b).score) : EReal) := by
  show StableHlo.after hostOps2 (W4 m ρ c) main_v19 (ix2 b s) = _
  entry_read
  rw [show W4 m ρ c (Proc.devRef .tc main_v18) = (dat1 (V3 m ρ) c).arrAt 26 cfg1.N from W4_arr m ρ c 26]
  have h := main26 (ops m ρ c N R) hg
  generalize (dat1 (V3 m ρ) c).arrAt 26 cfg1.N = A at h ⊢
  have h' : ∀ (b : Fin 16) (a : Fin 1) (s : Fin 1024), A (ix3 b a s) = ((N b).out (TopK.topSet (N b).score) : EReal) := fun b a s => h (ix3 b a s)
  pointwise [h']

end Cert.KernelIdeal.Arr
-- ==== Proof.RStage.lean ====
module

public import proofs.«01_k».proof.Proof.TopK

@[expose] public section

set_option maxRecDepth 16384
set_option maxHeartbeats 1000000

noncomputable section

/-! # The reference's arrays, read at an index, over the arguments of the networks -/

namespace Cert.ReferenceIdeal.Stage

open Cert.ReferenceIdeal Cert.ReferenceIdeal.Gen Cert.ReferenceIdeal.Read Idealize.ShloMosaic Cert.Model Cert.TopK

variable (x0 : FVec Ideal S16x1024x1024 .f32) (x1 : FVec Ideal S16x1024x512 .f32) (x2 : FVec Ideal S1024x256 .f32) (x3 : FVec Ideal S256 .f32) (x4 : FVec Ideal S256x32 .f32)
  (x5 : FVec Ideal S32 .f32) (x6 : FVec Ideal S32x1 .f32) (x7 : FVec Ideal S1 .f32) (x8 : FVec Ideal S1024x512 .f32) (x9 : FVec Ideal S512 .f32) (x10 : FVec Ideal S512x512 .f32)
  (x11 : FVec Ideal S512 .f32) (x12 : FVec Ideal S512x1 .f32) (x13 : FVec Ideal S1 .f32) (x14 : FVec Ideal S512x512 .f32) (x15 : FVec Ideal S512 .f32) (x16 : FVec Ideal S1536x512 .f32) (x17 : FVec Ideal S512 .f32)
  (x18 : FVec Ideal S1536x512 .f32) (x19 : FVec Ideal S512 .f32) (x20 : FVec Ideal S512x1536 .f32) (x21 : FVec Ideal S1536 .f32) (x22 : FVec Ideal S512x512 .f32) (x23 : FVec Ideal S512 .f32) (x24 : FVec Ideal S512x256 .f32)
  (x25 : FVec Ideal S256 .f32) (x26 : FVec Ideal S256x32 .f32) (x27 : FVec Ideal S32 .f32) (x28 : FVec Ideal S32x1 .f32) (x29 : FVec Ideal S1 .f32)
  (N : Fin 16 → Net)

section Scores

variable (A : Entries x0 x1 x2 x3 x4 x5 x6 x7 x8 x9 x10 x11 x12 x13 x14 x15 x16 x17 x18 x19 x20 x21 x22 x23 x24 x25 x26 x27 x28 x29 N)

include A in
/-- The first hidden layer of the scores. -/
theorem r_v4 (b : Fin 16) (s : Fin 1024) (e : Fin 256) : val_main_v4 (F := Ideal) x0 x2 x3 (ix3 b s e) = ((N b).h1 s e : EReal) := by
  have w0 := A.h0 b
  have w2 := A.h2 b
  have w3 := A.h3 b
  pointwise [val_main_v4, val_main_call0_v0, val_main_call0_cst, val_main_v3, val_main_v2, val_main_v1, val_main_v0, w0, w2, w3]
  simp only [Net.h1]

include A in
/-- The second hidden layer of the scores. -/
theorem r_v9 (b : Fin 16) (s : Fin 1024) (e : Fin 32) : val_main_v9 (F := Ideal) x0 x2 x3 x4 x5 (ix3 b s e) = ((N b).h2 s e : EReal) := by
  have w4 := A.h4 b
  have w5 := A.h5 b
  have e_v4 := r_v4 x0 x1 x2 x3 x4 x5 x6 x7 x8 x9 x10 x11 x12 x13 x14 x15 x16 x17 x18 x19 x20 x21 x22 x23 x24 x25 x26 x27 x28 x29 N A b
  pointwise [val_main_v9, val_main_call1_v0, val_main_call1_cst, val_main_v8, val_main_v7, val_main_v6, val_main_v5, w4, w5, e_v4]
  simp only [Net.h2]

include A in
/-- The scores, as extended reals. -/
theorem r_pre (b : Fin 16) (s : Fin 1024) : val_main_v14 (F := Ideal) x0 x2 x3 x4 x5 x6 x7 (ix2 b s) = (N b).preScore s := by
  have w6 := A.h6 b
  have w7 := A.h7 b
  have e_v9 := r_v9 x0 x1 x2 x3 x4 x5 x6 x7 x8 x9 x10 x11 x12 x13 x14 x15 x16 x17 x18 x19 x20 x21 x22 x23 x24 x25 x26 x27 x28 x29 N A b
  pointwise [val_main_v14, val_main_v13, val_main_v12, val_main_v11, val_main_v10, w6, w7, e_v9]
  simp only [Net.preScore]

end Scores

variable (R : Reads x0 x1 x2 x3 x4 x5 x6 x7 x8 x9 x10 x11 x12 x13 x14 x15 x16 x17 x18 x19 x20 x21 x22 x23 x24 x25 x26 x27 x28 x29 N)

include R in
/-- The scores. -/
theorem r_v14 (b : Fin 16) (s : Fin 1024) : val_main_v14 (F := Ideal) x0 x2 x3 x4 x5 x6 x7 (ix2 b s) = ((N b).score s : EReal) :=
  (r_pre x0 x1 x2 x3 x4 x5 x6 x7 x8 x9 x10 x11 x12 x13 x14 x15 x16 x17 x18 x19 x20 x21 x22 x23 x24 x25 x26 x27 x28 x29 N R.toEntries b s).trans (R.hs b s)

/-- The position the reference lists at place `i` of batch `b`. -/
abbrev pos (b : Fin 16) (i : Fin 102) : Fin 1024 := order (N b).score ⟨i.val, lt_of_lt_of_le i.isLt (by decide)⟩

/-- The comparisons that wrap and check a position see a number in range. -/
theorem in_range : ∀ r : Fin 1024, IntOp.cmpi .slt (BitVec.ofNat 32 r.val) 0#32 = 0#1
    ∧ IntOp.cmpi .sge (BitVec.ofNat 32 r.val) 0#32 = 1#1 ∧ IntOp.cmpi .sle (BitVec.ofNat 32 r.val) 1023#32 = 1#1 := by
  decide +kernel

include R in
/-- The positions. -/
theorem r_indices (b : Fin 16) (i : Fin 102) : val_main_indices (F := Ideal) x0 x2 x3 x4 x5 x6 x7 (ix2 b i) = BitVec.ofNat 32 (pos N b i).val :=
  indices_apply (by decide) _ (fun b => (N b).score) (fun b s => r_v14 x0 x1 x2 x3 x4 x5 x6 x7 x8 x9 x10 x11 x12 x13 x14 x15 x16 x17 x18 x19 x20 x21 x22 x23 x24 x25 x26 x27 x28 x29 N R b s) _ b i

include R in
/-- The wrapped positions are the positions. -/
theorem r_call2_v4 (b : Fin 16) (i : Fin 102) (a : Fin 1) : val_main_call2_v4 (F := Ideal) x0 x2 x3 x4 x5 x6 x7 (ix3 b i a) = BitVec.ofNat 32 (pos N b i).val := by
  have e := r_indices x0 x1 x2 x3 x4 x5 x6 x7 x8 x9 x10 x11 x12 x13 x14 x15 x16 x17 x18 x19 x20 x21 x22 x23 x24 x25 x26 x27 x28 x29 N R b
  pointwise [val_main_call2_v4, val_main_call2_v1, val_main_call2_v3, val_main_call2_v0, val_main_call2_v2, val_main_call2_c, val_main_call2_c_0, val_main_v15, e]
  rw [(in_range _).1]
  exact if_neg (by decide)

include R in
/-- Every position is in range. -/
theorem r_call2_v11 (b : Fin 16) (i : Fin 102) : val_main_call2_v11 (F := Ideal) x0 x2 x3 x4 x5 x6 x7 (ix2 b i) = 1#1 := by
  have e := r_call2_v4 x0 x1 x2 x3 x4 x5 x6 x7 x8 x9 x10 x11 x12 x13 x14 x15 x16 x17 x18 x19 x20 x21 x22 x23 x24 x25 x26 x27 x28 x29 N R b
  pointwise [val_main_call2_v11, val_main_call2_c_3, val_main_call2_v10, val_main_call2_v9, val_main_call2_v8, val_main_call2_v7, val_main_call2_c_1, val_main_call2_v6, val_main_call2_v5, val_main_call2_c_2, e]
  rw [(in_range _).2.1, (in_range _).2.2]
  decide

include R in
/-- The gathered rows. -/
theorem r_v16 (b : Fin 16) (i : Fin 102) (e : Fin 1024) : val_main_v16 (F := Ideal) x0 x2 x3 x4 x5 x6 x7 (ix3 b i e) = ((N b).v (pos N b i) e : EReal) := by
  have e1 := r_call2_v11 x0 x1 x2 x3 x4 x5 x6 x7 x8 x9 x10 x11 x12 x13 x14 x15 x16 x17 x18 x19 x20 x21 x22 x23 x24 x25 x26 x27 x28 x29 N R b
  have e2 : val_main_call2_v12 (F := Ideal) x0 x2 x3 x4 x5 x6 x7 (ix3 b i e) = ((N b).v (pos N b i) e : EReal) :=
    (gather_apply x0 _ b i e (pos N b i) (r_call2_v4 x0 x1 x2 x3 x4 x5 x6 x7 x8 x9 x10 x11 x12 x13 x14 x15 x16 x17 x18 x19 x20 x21 x22 x23 x24 x25 x26 x27 x28 x29 N R b i 0)).trans (R.h0 b _ e)
  pointwise [val_main_v16, val_main_call2_v13, e1, e2]

include R in
/-- The features of the gathered rows. -/
theorem r_v26 (b : Fin 16) (i : Fin 102) (e : Fin 512) : val_main_v26 (F := Ideal) x0 x2 x3 x4 x5 x6 x7 x8 x9 x10 x11 (ix3 b i e) = ((N b).cc (pos N b i) e : EReal) := by
  have w8 := R.h8 b
  have w9 := R.h9 b
  have w10 := R.h10 b
  have w11 := R.h11 b
  have e_v16 := r_v16 x0 x1 x2 x3 x4 x5 x6 x7 x8 x9 x10 x11 x12 x13 x14 x15 x16 x17 x18 x19 x20 x21 x22 x23 x24 x25 x26 x27 x28 x29 N R b
  pointwise [val_main_v26, val_main_call4_v0, val_main_call4_cst, val_main_v25, val_main_v24, val_main_v23, val_main_v22, val_main_v21, val_main_call3_v0, val_main_call3_cst, val_main_v20, val_main_v19, val_main_v18, val_main_v17, w8, w9, w10, w11, e_v16]
  simp only [Net.cc, Net.tt, EReal.coe_add, EReal.coe_mul, coe_sum, coe_max, EReal.coe_zero]

include R in
/-- The pooling logits. -/
theorem r_v30 (b : Fin 16) (i : Fin 102) (a : Fin 1) : val_main_v30 (F := Ideal) x0 x2 x3 x4 x5 x6 x7 x8 x9 x10 x11 x12 x13 (ix3 b i a) = ((N b).lg (pos N b i) : EReal) := by
  have w12 := R.h12 b
  have w13 := R.h13 b
  have e_v26 := r_v26 x0 x1 x2 x3 x4 x5 x6 x7 x8 x9 x10 x11 x12 x13 x14 x15 x16 x17 x18 x19 x20 x21 x22 x23 x24 x25 x26 x27 x28 x29 N R b
  pointwise [val_main_v30, val_main_v29, val_main_v28, val_main_v27, w12, w13, e_v26]
  simp only [Net.lg, EReal.coe_add, EReal.coe_mul, coe_sum, coe_max, EReal.coe_zero]

include R in
/-- The pooling weights. -/
theorem r_v41 (b : Fin 16) (i : Fin 102) (a : Fin 1) : val_main_v41 (F := Ideal) x0 x2 x3 x4 x5 x6 x7 x8 x9 x10 x11 x12 x13 (ix3 b i a) = ((Real.exp ((N b).lg (pos N b i)) / ∑ j, Real.exp ((N b).lg (pos N b j)) : ℝ) : EReal) := by
  have e_v30 := r_v30 x0 x1 x2 x3 x4 x5 x6 x7 x8 x9 x10 x11 x12 x13 x14 x15 x16 x17 x18 x19 x20 x21 x22 x23 x24 x25 x26 x27 x28 x29 N R b
  pointwise [val_main_v41, val_main_v40, val_main_v39, val_main_v38, val_main_cst_1, val_main_v37, val_main_v36, val_main_v35, val_main_v34, val_main_v33, val_main_v32, val_main_cst_0, val_main_v31, val_main_cst, e_v30]
  rw [bits_neg_inf]
  simp only [max_eq_right bot_le]
  exact softmax_coe (fun j => (N b).lg (pos N b j)) i

/-- The rows the reference pools in batch `b`. -/
abbrev top (b : Fin 16) : Finset (Fin 1024) := Finset.univ.image (pos N b)

theorem pos_injective (b : Fin 16) : Function.Injective (pos N b) := fun i j h => by
  have := order_injective _ h
  exact Fin.ext (Fin.mk.inj_iff.mp this)

include R in
/-- The pooled features. -/
theorem r_v44 (b : Fin 16) (e : Fin 512) : val_main_v44 (F := Ideal) x0 x2 x3 x4 x5 x6 x7 x8 x9 x10 x11 x12 x13 (ix2 b e) = ((N b).cam (top N b) e : EReal) := by
  have e_v41 := r_v41 x0 x1 x2 x3 x4 x5 x6 x7 x8 x9 x10 x11 x12 x13 x14 x15 x16 x17 x18 x19 x20 x21 x22 x23 x24 x25 x26 x27 x28 x29 N R b
  have e_v26 := r_v26 x0 x1 x2 x3 x4 x5 x6 x7 x8 x9 x10 x11 x12 x13 x14 x15 x16 x17 x18 x19 x20 x21 x22 x23 x24 x25 x26 x27 x28 x29 N R b
  pointwise [val_main_v44, val_main_cst_2, val_main_v43, val_main_v42, e_v41, e_v26]
  simp only [← EReal.coe_mul, ← coe_sum]
  unfold Net.cam
  rw [Finset.sum_image fun i _ j _ h => pos_injective N b h, Finset.sum_image fun i _ j _ h => pos_injective N b h]

include R in
/-- The first projection of the query. -/
theorem r_v49 (b : Fin 16) (e : Fin 512) : val_main_v49 (F := Ideal) x0 x2 x3 x4 x5 x6 x7 x8 x9 x10 x11 x12 x13 x14 x15 (ix2 b e) = ((∑ k, (N b).cam (top N b) k * (N b).qw k e + (N b).qb e : ℝ) : EReal) := by
  have w14 := R.h14 b
  have w15 := R.h15 b
  have e_v44 := r_v44 x0 x1 x2 x3 x4 x5 x6 x7 x8 x9 x10 x11 x12 x13 x14 x15 x16 x17 x18 x19 x20 x21 x22 x23 x24 x25 x26 x27 x28 x29 N R b
  pointwise [val_main_v49, val_main_v48, val_main_v47, val_main_v46, w14, w15, e_v44]
  simp only [EReal.coe_add, EReal.coe_mul, coe_sum, coe_max, EReal.coe_zero]

include R in
/-- The query. -/
theorem r_v63 (b : Fin 16) (e : Fin 512) : val_main_v63 (F := Ideal) x0 x2 x3 x4 x5 x6 x7 x8 x9 x10 x11 x12 x13 x14 x15 x20 x21 (ix2 b e) = ((N b).q (top N b) e : EReal) := by
  have w20 := R.h20 b
  have w21 := R.h21 b
  have e_v49 := r_v49 x0 x1 x2 x3 x4 x5 x6 x7 x8 x9 x10 x11 x12 x13 x14 x15 x16 x17 x18 x19 x20 x21 x22 x23 x24 x25 x26 x27 x28 x29 N R b
  pointwise [val_main_v63, val_main_v62, val_main_v61, val_main_v60, val_main_v59, val_main_v58, w20, w21, e_v49]
  simp only [Net.q, EReal.coe_add, EReal.coe_mul, coe_sum, coe_max, EReal.coe_zero]

include R in
/-- The first projection of the keys. -/
theorem r_v53 (b : Fin 16) (s : Fin 1024) (e : Fin 512) : val_main_v53 (F := Ideal) x0 x1 x16 x17 (ix3 b s e) = ((N b).kk0 s e : EReal) := by
  have w0 := R.h0 b
  have w1 := R.h1 b
  have w16 := R.h16 b
  have w17 := R.h17 b
  pointwise [val_main_v53, val_main_v52, val_main_v51, val_main_v50, val_main_v45, w0, w1, w16, w17]
  simp only [Net.kk0, EReal.coe_add, EReal.coe_mul, coe_sum, coe_max, EReal.coe_zero]

include R in
/-- The first projection of the values. -/
theorem r_v57 (b : Fin 16) (s : Fin 1024) (e : Fin 512) : val_main_v57 (F := Ideal) x0 x1 x18 x19 (ix3 b s e) = ((N b).vv0 s e : EReal) := by
  have w0 := R.h0 b
  have w1 := R.h1 b
  have w18 := R.h18 b
  have w19 := R.h19 b
  pointwise [val_main_v57, val_main_v56, val_main_v55, val_main_v54, val_main_v45, w0, w1, w18, w19]
  simp only [Net.vv0, EReal.coe_add, EReal.coe_mul, coe_sum, coe_max, EReal.coe_zero]

include R in
/-- The keys. -/
theorem r_v70 (b : Fin 16) (s : Fin 1024) (e : Fin 512) : val_main_v70 (F := Ideal) x0 x1 x16 x17 x20 x21 (ix3 b s e) = ((N b).kk s e : EReal) := by
  have w20 := R.h20 b
  have w21 := R.h21 b
  have e_v53 := r_v53 x0 x1 x2 x3 x4 x5 x6 x7 x8 x9 x10 x11 x12 x13 x14 x15 x16 x17 x18 x19 x20 x21 x22 x23 x24 x25 x26 x27 x28 x29 N R b
  pointwise [val_main_v70, val_main_v69, val_main_v68, val_main_v67, val_main_v66, val_main_v65, w20, w21, e_v53]
  simp only [Net.kk, EReal.coe_add, EReal.coe_mul, coe_sum, coe_max, EReal.coe_zero]

include R in
/-- The values. -/
theorem r_v77 (b : Fin 16) (s : Fin 1024) (e : Fin 512) : val_main_v77 (F := Ideal) x0 x1 x18 x19 x20 x21 (ix3 b s e) = ((N b).vv s e : EReal) := by
  have w20 := R.h20 b
  have w21 := R.h21 b
  have e_v57 := r_v57 x0 x1 x2 x3 x4 x5 x6 x7 x8 x9 x10 x11 x12 x13 x14 x15 x16 x17 x18 x19 x20 x21 x22 x23 x24 x25 x26 x27 x28 x29 N R b
  pointwise [val_main_v77, val_main_v76, val_main_v75, val_main_v74, val_main_v73, val_main_v72, w20, w21, e_v57]
  simp only [Net.vv, EReal.coe_add, EReal.coe_mul, coe_sum, coe_max, EReal.coe_zero]

include R in
/-- The attention logits. -/
theorem r_v82 (b : Fin 16) (h : Fin 4) (s : Fin 1024) : val_main_v82 (F := Ideal) x0 x1 x2 x3 x4 x5 x6 x7 x8 x9 x10 x11 x12 x13 x14 x15 x16 x17 x20 x21 (ix3 b h s) = ((N b).al (top N b) h s : EReal) := by
  have e_v63 := r_v63 x0 x1 x2 x3 x4 x5 x6 x7 x8 x9 x10 x11 x12 x13 x14 x15 x16 x17 x18 x19 x20 x21 x22 x23 x24 x25 x26 x27 x28 x29 N R b
  have e_v70 := r_v70 x0 x1 x2 x3 x4 x5 x6 x7 x8 x9 x10 x11 x12 x13 x14 x15 x16 x17 x18 x19 x20 x21 x22 x23 x24 x25 x26 x27 x28 x29 N R b
  pointwise [val_main_v82, val_main_v81, val_main_v80, val_main_cst_3, val_main_v79, val_main_v64, val_main_v71, e_v63, e_v70]
  have hs : Ideal.sqrt ((128 : ℝ) : EReal) = ((Real.sqrt 128 : ℝ) : EReal) := if_neg (by norm_num)
  rw [bits_128, hs, Ideal.div_coe (Real.sqrt_ne_zero'.mpr (by norm_num))]
  simp only [Net.al, EReal.coe_mul, coe_sum]

include R in
/-- The attention weights. -/
theorem r_v93 (b : Fin 16) (h : Fin 4) (s : Fin 1024) : val_main_v93 (F := Ideal) x0 x1 x2 x3 x4 x5 x6 x7 x8 x9 x10 x11 x12 x13 x14 x15 x16 x17 x20 x21 (ix3 b h s) = ((N b).prob (top N b) h s : EReal) := by
  have e_v82 := r_v82 x0 x1 x2 x3 x4 x5 x6 x7 x8 x9 x10 x11 x12 x13 x14 x15 x16 x17 x18 x19 x20 x21 x22 x23 x24 x25 x26 x27 x28 x29 N R b
  pointwise [val_main_v93, val_main_v92, val_main_v91, val_main_v90, val_main_cst_6, val_main_v89, val_main_v88, val_main_v87, val_main_v86, val_main_v85, val_main_v84, val_main_cst_5, val_main_v83, val_main_cst_4, e_v82]
  rw [bits_neg_inf]
  simp only [max_eq_right bot_le]
  exact softmax_coe ((N b).al (top N b) h) s

include R in
/-- The attention's result. -/
theorem r_v95 (b : Fin 16) (e : Fin 512) : val_main_v95 (F := Ideal) x0 x1 x2 x3 x4 x5 x6 x7 x8 x9 x10 x11 x12 x13 x14 x15 x16 x17 x18 x19 x20 x21 (ix2 b e) = ((N b).ctx (top N b) e : EReal) := by
  have e_v93 := r_v93 x0 x1 x2 x3 x4 x5 x6 x7 x8 x9 x10 x11 x12 x13 x14 x15 x16 x17 x18 x19 x20 x21 x22 x23 x24 x25 x26 x27 x28 x29 N R b
  have e_v77 := r_v77 x0 x1 x2 x3 x4 x5 x6 x7 x8 x9 x10 x11 x12 x13 x14 x15 x16 x17 x18 x19 x20 x21 x22 x23 x24 x25 x26 x27 x28 x29 N R b
  pointwise [val_main_v95, val_main_v94, val_main_v78, e_v93, e_v77]
  simp only [Net.ctx, EReal.coe_add, EReal.coe_mul, coe_sum]

include R in
/-- The output projection. -/
theorem r_v99 (b : Fin 16) (e : Fin 512) : val_main_v99 (F := Ideal) x0 x1 x2 x3 x4 x5 x6 x7 x8 x9 x10 x11 x12 x13 x14 x15 x16 x17 x18 x19 x20 x21 x22 x23 (ix2 b e) = ((N b).at0 (top N b) e : EReal) := by
  have w22 := R.h22 b
  have w23 := R.h23 b
  have e_v95 := r_v95 x0 x1 x2 x3 x4 x5 x6 x7 x8 x9 x10 x11 x12 x13 x14 x15 x16 x17 x18 x19 x20 x21 x22 x23 x24 x25 x26 x27 x28 x29 N R b
  pointwise [val_main_v99, val_main_v98, val_main_v97, val_main_v96, w22, w23, e_v95]
  simp only [Net.at0, EReal.coe_mul, coe_sum]

include R in
/-- The first layer of the last network. -/
theorem r_v106 (b : Fin 16) (s : Fin 1024) (e : Fin 256) : val_main_v106 (F := Ideal) x0 x1 x2 x3 x4 x5 x6 x7 x8 x9 x10 x11 x12 x13 x14 x15 x16 x17 x18 x19 x20 x21 x22 x23 x24 x25 (ix3 b s e) = ((N b).g1 (top N b) e : EReal) := by
  have w24 := R.h24 b
  have w25 := R.h25 b
  have e_v99 := r_v99 x0 x1 x2 x3 x4 x5 x6 x7 x8 x9 x10 x11 x12 x13 x14 x15 x16 x17 x18 x19 x20 x21 x22 x23 x24 x25 x26 x27 x28 x29 N R b
  pointwise [val_main_v106, val_main_call5_v0, val_main_call5_cst, val_main_v105, val_main_v104, val_main_v103, val_main_v102, val_main_v101, val_main_v100, w24, w25, e_v99]
  simp only [Net.g1]

include R in
/-- The second layer of the last network. -/
theorem r_v111 (b : Fin 16) (s : Fin 1024) (e : Fin 32) : val_main_v111 (F := Ideal) x0 x1 x2 x3 x4 x5 x6 x7 x8 x9 x10 x11 x12 x13 x14 x15 x16 x17 x18 x19 x20 x21 x22 x23 x24 x25 x26 x27 (ix3 b s e) = ((N b).g2 (top N b) e : EReal) := by
  have w26 := R.h26 b
  have w27 := R.h27 b
  have e_v106 := r_v106 x0 x1 x2 x3 x4 x5 x6 x7 x8 x9 x10 x11 x12 x13 x14 x15 x16 x17 x18 x19 x20 x21 x22 x23 x24 x25 x26 x27 x28 x29 N R b
  pointwise [val_main_v111, val_main_call6_v0, val_main_call6_cst, val_main_v110, val_main_v109, val_main_v108, val_main_v107, w26, w27, e_v106]
  simp only [Net.g2]

include R in
/-- The reference's result. -/
theorem r_v116 (b : Fin 16) (s : Fin 1024) : val_main_v116 (F := Ideal) x0 x1 x2 x3 x4 x5 x6 x7 x8 x9 x10 x11 x12 x13 x14 x15 x16 x17 x18 x19 x20 x21 x22 x23 x24 x25 x26 x27 x28 x29 (ix2 b s) = ((N b).out (top N b) : EReal) := by
  have w28 := R.h28 b
  have w29 := R.h29 b
  have e_v111 := r_v111 x0 x1 x2 x3 x4 x5 x6 x7 x8 x9 x10 x11 x12 x13 x14 x15 x16 x17 x18 x19 x20 x21 x22 x23 x24 x25 x26 x27 x28 x29 N R b
  pointwise [val_main_v116, val_main_v115, val_main_v114, val_main_v113, val_main_v112, w28, w29, e_v111]
  simp only [Net.out]

end Cert.ReferenceIdeal.Stage
-- ==== Proof.PreBits.lean ====
module

public import proofs.«01_k».proof.Proof.RStage
public import proofs.«01_k».proof.Proof.Gen.Pre_separated_scores
public import Idealize.ShloMosaic.PureOps.Reduce

@[expose] public section

set_option maxRecDepth 16384
set_option maxHeartbeats 1000000

noncomputable section

/-! # Reading the bits of the precondition -/

namespace Cert.PreFacts

open Idealize.ShloMosaic Cert.Model

/-- A conjunction of two single bits is set only when both are. -/
theorem both_of_and {s : Shape} {p q : IVec s 1} {i : s.Idx} (h : andi p q i = 1#1) : p i = 1#1 ∧ q i = 1#1 :=
  (show ∀ a b : BitVec 1, a &&& b = 1#1 → a = 1#1 ∧ b = 1#1 by decide) (p i) (q i) h

/-- A single bit spread over a shape is set at an index only when the bit is. -/
theorem of_spread {s : Shape} {v : IVec ⟨0, ![]⟩ 1} {h : (⟨0, ![]⟩ : Shape).BroadcastsInDim s (![] : Fin 0 → Fin s.rank)} {i : s.Idx}
    (hv : broadcastInDim s ![] h v i = 1#1) : v ix0 = 1#1 := by
  rw [← hv]
  exact congrArg v (funext fun a => a.elim0)

/-- An array whose largest absolute value is below infinity holds real numbers. -/
theorem real_of_bit {s : Shape} {axes : List (Fin s.rank)} {x : FVec Ideal s .f32} {h : s.ReducesTo axes ⟨0, ![]⟩}
    {hu : 0 < (⟨0, ![]⟩ : Shape).numel} {j : (⟨0, ![]⟩ : Shape).Idx}
    (hb : cmpf .olt (Host.reduce FloatOps.maximumf (Host.absf x) (constant ⟨0, ![]⟩ .f32 0xFF800000#32) h hu)
      (constant ⟨0, ![]⟩ .f32 0x7F800000#32) j = 1#1) (i : s.Idx) : x i = ((x i).toReal : EReal) := by
  have e : Host.reduce FloatOps.maximumf (Host.absf x) (constant ⟨0, ![]⟩ .f32 0xFF800000#32) h hu j < (⊤ : EReal) := by
    rw [← bits_inf]
    by_contra hn
    have : cmpf .olt (Host.reduce FloatOps.maximumf (Host.absf x) (constant ⟨0, ![]⟩ .f32 0xFF800000#32) h hu)
      (constant ⟨0, ![]⟩ .f32 0x7F800000#32) j = 0#1 := by
      show BitVec.ofBool (decide (Host.reduce FloatOps.maximumf (Host.absf x) (constant ⟨0, ![]⟩ .f32 0xFF800000#32) h hu j
        < Ideal.ofBits FTy.f32 2139095040#32)) = 0#1
      rw [decide_eq_false hn]; rfl
    rw [this] at hb
    exact absurd hb (by decide)
  rw [Host.reduce_eq_fold] at e
  have e2 := (Finset.fold_max_lt (c := (⊤ : EReal)) |>.mp e).2 i
    (Finset.mem_filter.mpr ⟨Finset.mem_univ _, funext fun a => a.elim0⟩)
  have e3 : max (x i) (-(x i)) < (⊤ : EReal) := e2
  have h1 : x i ≠ ⊤ := (lt_of_le_of_lt (le_max_left _ _) e3).ne
  have h2 : x i ≠ ⊥ := fun hc => by
    rw [hc] at e3
    exact absurd e3 (by simp)
  exact (EReal.coe_toReal h1 h2).symm

theorem bits_gap : Ideal.ofBits .f32 738197504#32 = ((1 / 8 ^ 13 : ℝ) : EReal) := by
  simp [Ideal.ofBits, Ideal.ieee, -EReal.coe_mul]; norm_num

/-- The end points of a spread that is less than some difference inside it are real. -/
theorem ends_real {M L p r : EReal} (hpM : p ≤ M) (hLp : L ≤ p) (hrM : r ≤ M) (hLr : L ≤ r) {k : ℝ} (hk : 0 < k)
    (e : (M - L) * (k : EReal) < p - r) : M ≠ ⊤ ∧ L ≠ ⊥ := by
  constructor
  · rintro rfl
    induction L with
    | top =>
      rw [top_le_iff.mp hLp, top_le_iff.mp hLr] at e
      exact absurd e (by simp)
    | coe l => exact absurd e (by rw [EReal.top_sub_coe, EReal.top_mul_coe_of_pos hk]; exact not_top_lt)
    | bot => exact absurd e (by rw [EReal.sub_bot (by simp), EReal.top_mul_coe_of_pos hk]; exact not_top_lt)
  · rintro rfl
    induction M with
    | bot =>
      rw [le_bot_iff.mp hpM, le_bot_iff.mp hrM] at e
      exact absurd e (by simp)
    | coe m => exact absurd e (by rw [EReal.sub_bot (by simp), EReal.top_mul_coe_of_pos hk]; exact not_top_lt)
    | top => exact absurd e (by rw [EReal.sub_bot (by simp), EReal.top_mul_coe_of_pos hk]; exact not_top_lt)

/-- Scores whose gap bit is set are real. -/
theorem real_of_gap_bit (y : FVec Ideal ⟨2, ![16, 1024]⟩ .f32)
    {ht : (⟨2, ![16, 1024]⟩ : Shape).Slices (fun _ => 0) ⟨2, ![16, 103]⟩}
    {h1 : (⟨2, ![16, 103]⟩ : Shape).Slices ![0, 101] ⟨2, ![16, 1]⟩} {h2 : (⟨2, ![16, 103]⟩ : Shape).Slices ![0, 102] ⟨2, ![16, 1]⟩}
    {hc : (⟨2, ![16, 1]⟩ : Shape).ShapeCasts ⟨1, ![16]⟩} {hr : (⟨2, ![16, 1024]⟩ : Shape).ReducesTo [1] ⟨1, ![16]⟩}
    {hu : 0 < (⟨0, ![]⟩ : Shape).numel} {hb : (⟨0, ![]⟩ : Shape).BroadcastsInDim ⟨1, ![16]⟩ (![] : Fin 0 → Fin 1)} {b : Fin 16}
    (hbit : cmpf .ogt
      (subf (shapeCast ⟨1, ![16]⟩ (extractStridedSlice ⟨2, ![16, 1]⟩ ![0, 101] (Host.topK ⟨2, ![16, 103]⟩ 1 (FloatOps.cmpfTotal .gt) y ht).1 h1) hc)
        (shapeCast ⟨1, ![16]⟩ (extractStridedSlice ⟨2, ![16, 1]⟩ ![0, 102] (Host.topK ⟨2, ![16, 103]⟩ 1 (FloatOps.cmpfTotal .gt) y ht).1 h2) hc))
      (mulf (subf (Host.reduce FloatOps.maximumf y (constant ⟨0, ![]⟩ .f32 0xFF800000#32) hr hu)
          (Host.reduce FloatOps.minimumf y (constant ⟨0, ![]⟩ .f32 0x7F800000#32) hr hu))
        (broadcastInDim ⟨1, ![16]⟩ ![] hb (constant ⟨0, ![]⟩ .f32 0x2C000000#32))) (ix1 b) = 1#1) (s : Fin 1024) : y (ix2 b s) = ((y (ix2 b s)).toReal : EReal) := by
  have hv := TopK.value_mem (K := 103) y ht
  generalize (Host.topK ⟨2, ![16, 103]⟩ 1 (FloatOps.cmpfTotal .gt) y ht).1 = V at hv hbit
  choose κ hκ using hv
  have hM : ∀ k, y (ix2 b k) ≤ Finset.univ.fold max ⊥ (fun k => y (ix2 b k)) := fun k =>
    (Finset.le_fold_max _).mpr (Or.inr ⟨k, Finset.mem_univ _, le_rfl⟩)
  have hL : ∀ k, Finset.univ.fold min ⊤ (fun k => y (ix2 b k)) ≤ y (ix2 b k) := fun k =>
    (Finset.fold_min_le _).mpr (Or.inr ⟨k, Finset.mem_univ _, le_rfl⟩)
  pointwise [hκ, bits_neg_inf, bits_inf, bits_gap] at hbit
  generalize Finset.univ.fold max ⊥ (fun k => y (ix2 b k)) = M at hM hbit
  generalize Finset.univ.fold min ⊤ (fun k => y (ix2 b k)) = L at hL hbit
  have e : (M - L) * ((1 / 8 ^ 13 : ℝ) : EReal) < y (ix2 b (κ b 101)) - y (ix2 b (κ b 102)) := by
    by_contra hn
    rw [decide_eq_false hn] at hbit
    exact absurd hbit (by decide)
  have r := ends_real (hM _) (hL _) (hM _) (hL _) (by positivity) e
  exact (EReal.coe_toReal (lt_of_le_of_lt (hM s) (lt_top_iff_ne_top.mpr r.1)).ne
    (lt_of_lt_of_le (bot_lt_iff_ne_bot.mpr r.2) (hL s)).ne').symm

/-- The gap bit of a batch, over real scores. -/
theorem gap_of_bit (y : FVec Ideal ⟨2, ![16, 1024]⟩ .f32) (σ : Fin 16 → Fin 1024 → ℝ) (hy : ∀ b s, y (ix2 b s) = (σ b s : EReal))
    {ht : (⟨2, ![16, 1024]⟩ : Shape).Slices (fun _ => 0) ⟨2, ![16, 103]⟩}
    {h1 : (⟨2, ![16, 103]⟩ : Shape).Slices ![0, 101] ⟨2, ![16, 1]⟩} {h2 : (⟨2, ![16, 103]⟩ : Shape).Slices ![0, 102] ⟨2, ![16, 1]⟩}
    {hc : (⟨2, ![16, 1]⟩ : Shape).ShapeCasts ⟨1, ![16]⟩} {hr : (⟨2, ![16, 1024]⟩ : Shape).ReducesTo [1] ⟨1, ![16]⟩}
    {hu : 0 < (⟨0, ![]⟩ : Shape).numel} {hb : (⟨0, ![]⟩ : Shape).BroadcastsInDim ⟨1, ![16]⟩ (![] : Fin 0 → Fin 1)} {b : Fin 16}
    (hbit : cmpf .ogt
      (subf (shapeCast ⟨1, ![16]⟩ (extractStridedSlice ⟨2, ![16, 1]⟩ ![0, 101] (Host.topK ⟨2, ![16, 103]⟩ 1 (FloatOps.cmpfTotal .gt) y ht).1 h1) hc)
        (shapeCast ⟨1, ![16]⟩ (extractStridedSlice ⟨2, ![16, 1]⟩ ![0, 102] (Host.topK ⟨2, ![16, 103]⟩ 1 (FloatOps.cmpfTotal .gt) y ht).1 h2) hc))
      (mulf (subf (Host.reduce FloatOps.maximumf y (constant ⟨0, ![]⟩ .f32 0xFF800000#32) hr hu)
          (Host.reduce FloatOps.minimumf y (constant ⟨0, ![]⟩ .f32 0x7F800000#32) hr hu))
        (broadcastInDim ⟨1, ![16]⟩ ![] hb (constant ⟨0, ![]⟩ .f32 0x2C000000#32))) (ix1 b) = 1#1) : TopK.Gap (σ b) := by
  have hv := TopK.values_apply (K := 103) (by decide) y σ hy ht
  generalize (Host.topK ⟨2, ![16, 103]⟩ 1 (FloatOps.cmpfTotal .gt) y ht).1 = V at hv hbit
  obtain ⟨M, eM, hM, -⟩ := fold_max_coe (σ b) 0
  obtain ⟨L, eL, hL, -⟩ := fold_min_coe (σ b) 0
  pointwise [hv, hy, bits_neg_inf, bits_inf, bits_gap, eM, eL] at hbit
  have e : ((M : EReal) - L) * ((1 / 8 ^ 13 : ℝ) : EReal) < (σ b (TopK.order (σ b) 101) : EReal) - σ b (TopK.order (σ b) 102) := by
    by_contra hn
    rw [decide_eq_false hn] at hbit
    exact absurd hbit (by decide)
  rw [← EReal.coe_sub, ← EReal.coe_sub, ← EReal.coe_mul, EReal.coe_lt_coe_iff] at e
  have a := hM (TopK.order (σ b) 0)
  have c := hL (TopK.order (σ b) 1023)
  refine lt_of_le_of_lt ?_ e
  rw [div_eq_mul_one_div]
  exact mul_le_mul_of_nonneg_right (sub_le_sub a c) (by positivity)

end Cert.PreFacts
-- ==== Proof.PreFacts.lean ====
module

public import proofs.«01_k».proof.Proof.RStage
public import proofs.«01_k».proof.Proof.Gen.Pre_separated_scores
public import proofs.«01_k».proof.Proof.PreBits

@[expose] public section

set_option maxRecDepth 16384
set_option maxHeartbeats 1000000

noncomputable section

/-! # What the precondition says of the arguments

Every entry of the arguments it asks to be finite is a real number, every score is a real number, and in every batch the
score at place 101 of the descending order exceeds the score at place 102 by more than the spread of the scores over 8^13. -/

namespace Cert.PreFacts

open Idealize.ShloMosaic Cert.Model

/-- The network of a batch, read from the arguments. -/
def netOf (x0 : FVec Ideal ⟨3, ![16, 1024, 1024]⟩ .f32) (x1 : FVec Ideal ⟨3, ![16, 1024, 512]⟩ .f32) (x2 : FVec Ideal ⟨2, ![1024, 256]⟩ .f32) (x3 : FVec Ideal ⟨1, ![256]⟩ .f32) (x4 : FVec Ideal ⟨2, ![256, 32]⟩ .f32) (x5 : FVec Ideal ⟨1, ![32]⟩ .f32) (x6 : FVec Ideal ⟨2, ![32, 1]⟩ .f32) (x7 : FVec Ideal ⟨1, ![1]⟩ .f32) (x8 : FVec Ideal ⟨2, ![1024, 512]⟩ .f32) (x9 : FVec Ideal ⟨1, ![512]⟩ .f32) (x10 : FVec Ideal ⟨2, ![512, 512]⟩ .f32) (x11 : FVec Ideal ⟨1, ![512]⟩ .f32) (x12 : FVec Ideal ⟨2, ![512, 1]⟩ .f32) (x13 : FVec Ideal ⟨1, ![1]⟩ .f32) (x14 : FVec Ideal ⟨2, ![512, 512]⟩ .f32) (x15 : FVec Ideal ⟨1, ![512]⟩ .f32) (x16 : FVec Ideal ⟨2, ![1536, 512]⟩ .f32) (x17 : FVec Ideal ⟨1, ![512]⟩ .f32) (x18 : FVec Ideal ⟨2, ![1536, 512]⟩ .f32) (x19 : FVec Ideal ⟨1, ![512]⟩ .f32) (x20 : FVec Ideal ⟨2, ![512, 1536]⟩ .f32) (x21 : FVec Ideal ⟨1, ![1536]⟩ .f32) (x22 : FVec Ideal ⟨2, ![512, 512]⟩ .f32) (x23 : FVec Ideal ⟨1, ![512]⟩ .f32) (x24 : FVec Ideal ⟨2, ![512, 256]⟩ .f32) (x25 : FVec Ideal ⟨1, ![256]⟩ .f32) (x26 : FVec Ideal ⟨2, ![256, 32]⟩ .f32) (x27 : FVec Ideal ⟨1, ![32]⟩ .f32) (x28 : FVec Ideal ⟨2, ![32, 1]⟩ .f32) (x29 : FVec Ideal ⟨1, ![1]⟩ .f32) (b : Fin 16) : Net where
  v := fun i j => (x0 (ix3 b i j)).toReal
  t := fun i j => (x1 (ix3 b i j)).toReal
  w1 := fun i j => x2 (ix2 i j)
  b1 := fun i => x3 (ix1 i)
  w2 := fun i j => x4 (ix2 i j)
  b2 := fun i => x5 (ix1 i)
  w3 := fun i => x6 (ix2 i 0)
  b3 := x7 (ix1 0)
  fw := fun i j => (x8 (ix2 i j)).toReal
  fb := fun i => (x9 (ix1 i)).toReal
  gw := fun i j => (x10 (ix2 i j)).toReal
  gb := fun i => (x11 (ix1 i)).toReal
  aw := fun i => (x12 (ix2 i 0)).toReal
  ab := (x13 (ix1 0)).toReal
  qw := fun i j => (x14 (ix2 i j)).toReal
  qb := fun i => (x15 (ix1 i)).toReal
  kw := fun i j => (x16 (ix2 i j)).toReal
  kb := fun i => (x17 (ix1 i)).toReal
  vw := fun i j => (x18 (ix2 i j)).toReal
  vb := fun i => (x19 (ix1 i)).toReal
  iw := fun i j => (x20 (ix2 i j)).toReal
  ib := fun i => (x21 (ix1 i)).toReal
  ow := fun i j => (x22 (ix2 i j)).toReal
  ob := fun i => x23 (ix1 i)
  p1 := fun i j => (x24 (ix2 i j)).toReal
  c1 := fun i => x25 (ix1 i)
  p2 := fun i j => x26 (ix2 i j)
  c2 := fun i => x27 (ix1 i)
  p3 := fun i => x28 (ix2 i 0)
  c3 := x29 (ix1 0)

variable (x0 : FVec Ideal ⟨3, ![16, 1024, 1024]⟩ .f32) (x1 : FVec Ideal ⟨3, ![16, 1024, 512]⟩ .f32) (x2 : FVec Ideal ⟨2, ![1024, 256]⟩ .f32) (x3 : FVec Ideal ⟨1, ![256]⟩ .f32) (x4 : FVec Ideal ⟨2, ![256, 32]⟩ .f32) (x5 : FVec Ideal ⟨1, ![32]⟩ .f32) (x6 : FVec Ideal ⟨2, ![32, 1]⟩ .f32) (x7 : FVec Ideal ⟨1, ![1]⟩ .f32) (x8 : FVec Ideal ⟨2, ![1024, 512]⟩ .f32) (x9 : FVec Ideal ⟨1, ![512]⟩ .f32) (x10 : FVec Ideal ⟨2, ![512, 512]⟩ .f32) (x11 : FVec Ideal ⟨1, ![512]⟩ .f32) (x12 : FVec Ideal ⟨2, ![512, 1]⟩ .f32) (x13 : FVec Ideal ⟨1, ![1]⟩ .f32) (x14 : FVec Ideal ⟨2, ![512, 512]⟩ .f32) (x15 : FVec Ideal ⟨1, ![512]⟩ .f32) (x16 : FVec Ideal ⟨2, ![1536, 512]⟩ .f32) (x17 : FVec Ideal ⟨1, ![512]⟩ .f32) (x18 : FVec Ideal ⟨2, ![1536, 512]⟩ .f32) (x19 : FVec Ideal ⟨1, ![512]⟩ .f32) (x20 : FVec Ideal ⟨2, ![512, 1536]⟩ .f32) (x21 : FVec Ideal ⟨1, ![1536]⟩ .f32) (x22 : FVec Ideal ⟨2, ![512, 512]⟩ .f32) (x23 : FVec Ideal ⟨1, ![512]⟩ .f32) (x24 : FVec Ideal ⟨2, ![512, 256]⟩ .f32) (x25 : FVec Ideal ⟨1, ![256]⟩ .f32) (x26 : FVec Ideal ⟨2, ![256, 32]⟩ .f32) (x27 : FVec Ideal ⟨1, ![32]⟩ .f32) (x28 : FVec Ideal ⟨2, ![32, 1]⟩ .f32) (x29 : FVec Ideal ⟨1, ![1]⟩ .f32)

/-- Under the precondition the arguments hold the networks, every score is real, and the scores of every batch are separated. -/
theorem facts (h : Cert.Pre_separated_scores.fn (F := Ideal) x0 x1 x2 x3 x4 x5 x6 x7 x8 x9 x10 x11 x12 x13 x14 x15 x16 x17 x18 x19 x20 x21 x22 x23 x24 x25 x26 x27 x28 x29 = fun _ => 1#1) :
    Reads x0 x1 x2 x3 x4 x5 x6 x7 x8 x9 x10 x11 x12 x13 x14 x15 x16 x17 x18 x19 x20 x21 x22 x23 x24 x25 x26 x27 x28 x29 (netOf x0 x1 x2 x3 x4 x5 x6 x7 x8 x9 x10 x11 x12 x13 x14 x15 x16 x17 x18 x19 x20 x21 x22 x23 x24 x25 x26 x27 x28 x29) ∧ ∀ b, TopK.Gap (netOf x0 x1 x2 x3 x4 x5 x6 x7 x8 x9 x10 x11 x12 x13 x14 x15 x16 x17 x18 x19 x20 x21 x22 x23 x24 x25 x26 x27 x28 x29 b).score := by
  have hand : ∀ b : Fin 16, Cert.Pre_separated_scores.fn (F := Ideal) x0 x1 x2 x3 x4 x5 x6 x7 x8 x9 x10 x11 x12 x13 x14 x15 x16 x17 x18 x19 x20 x21 x22 x23 x24 x25 x26 x27 x28 x29 (ix1 b) = 1#1 := fun b => congrFun h _
  have h0 := (both_of_and (hand 0)).2
  replace h0 := of_spread h0
  have g24 := (both_of_and h0).2
  replace h0 := (both_of_and h0).1
  have g22 := (both_of_and h0).2
  replace h0 := (both_of_and h0).1
  have g21 := (both_of_and h0).2
  replace h0 := (both_of_and h0).1
  have g20 := (both_of_and h0).2
  replace h0 := (both_of_and h0).1
  have g19 := (both_of_and h0).2
  replace h0 := (both_of_and h0).1
  have g18 := (both_of_and h0).2
  replace h0 := (both_of_and h0).1
  have g17 := (both_of_and h0).2
  replace h0 := (both_of_and h0).1
  have g16 := (both_of_and h0).2
  replace h0 := (both_of_and h0).1
  have g15 := (both_of_and h0).2
  replace h0 := (both_of_and h0).1
  have g14 := (both_of_and h0).2
  replace h0 := (both_of_and h0).1
  have g13 := (both_of_and h0).2
  replace h0 := (both_of_and h0).1
  have g12 := (both_of_and h0).2
  replace h0 := (both_of_and h0).1
  have g11 := (both_of_and h0).2
  replace h0 := (both_of_and h0).1
  have g10 := (both_of_and h0).2
  replace h0 := (both_of_and h0).1
  have g9 := (both_of_and h0).2
  replace h0 := (both_of_and h0).1
  have g8 := (both_of_and h0).2
  replace h0 := (both_of_and h0).1
  have g1 := (both_of_and h0).2
  replace h0 := (both_of_and h0).1
  have E : Entries x0 x1 x2 x3 x4 x5 x6 x7 x8 x9 x10 x11 x12 x13 x14 x15 x16 x17 x18 x19 x20 x21 x22 x23 x24 x25 x26 x27 x28 x29 (netOf x0 x1 x2 x3 x4 x5 x6 x7 x8 x9 x10 x11 x12 x13 x14 x15 x16 x17 x18 x19 x20 x21 x22 x23 x24 x25 x26 x27 x28 x29) := by
    constructor
    · exact fun b i j => real_of_bit h0 (ix3 b i j)
    · exact fun b i j => real_of_bit g1 (ix3 b i j)
    · exact fun b i j => rfl
    · exact fun b i => rfl
    · exact fun b i j => rfl
    · exact fun b i => rfl
    · intro b i j; obtain rfl : j = 0 := Subsingleton.elim _ _; exact rfl
    · intro b i; obtain rfl : i = 0 := Subsingleton.elim _ _; exact rfl
    · exact fun b i j => real_of_bit g8 (ix2 i j)
    · exact fun b i => real_of_bit g9 (ix1 i)
    · exact fun b i j => real_of_bit g10 (ix2 i j)
    · exact fun b i => real_of_bit g11 (ix1 i)
    · intro b i j; obtain rfl : j = 0 := Subsingleton.elim _ _; exact real_of_bit g12 (ix2 i 0)
    · intro b i; obtain rfl : i = 0 := Subsingleton.elim _ _; exact real_of_bit g13 (ix1 0)
    · exact fun b i j => real_of_bit g14 (ix2 i j)
    · exact fun b i => real_of_bit g15 (ix1 i)
    · exact fun b i j => real_of_bit g16 (ix2 i j)
    · exact fun b i => real_of_bit g17 (ix1 i)
    · exact fun b i j => real_of_bit g18 (ix2 i j)
    · exact fun b i => real_of_bit g19 (ix1 i)
    · exact fun b i j => real_of_bit g20 (ix2 i j)
    · exact fun b i => real_of_bit g21 (ix1 i)
    · exact fun b i j => real_of_bit g22 (ix2 i j)
    · exact fun b i => rfl
    · exact fun b i j => real_of_bit g24 (ix2 i j)
    · exact fun b i => rfl
    · exact fun b i j => rfl
    · exact fun b i => rfl
    · intro b i j; obtain rfl : j = 0 := Subsingleton.elim _ _; exact rfl
    · intro b i; obtain rfl : i = 0 := Subsingleton.elim _ _; exact rfl
  clear h0 g1 g8 g9 g10 g11 g12 g13 g14 g15 g16 g17 g18 g19 g20 g21 g22 g24
  have hp := Cert.ReferenceIdeal.Stage.r_pre x0 x1 x2 x3 x4 x5 x6 x7 x8 x9 x10 x11 x12 x13 x14 x15 x16 x17 x18 x19 x20 x21 x22 x23 x24 x25 x26 x27 x28 x29 _ E
  have hr : ∀ b s, (netOf x0 x1 x2 x3 x4 x5 x6 x7 x8 x9 x10 x11 x12 x13 x14 x15 x16 x17 x18 x19 x20 x21 x22 x23 x24 x25 x26 x27 x28 x29 b).preScore s = ((netOf x0 x1 x2 x3 x4 x5 x6 x7 x8 x9 x10 x11 x12 x13 x14 x15 x16 x17 x18 x19 x20 x21 x22 x23 x24 x25 x26 x27 x28 x29 b).score s : EReal) := by
    intro b s
    have hb := (both_of_and (hand b)).1
    have e := real_of_gap_bit (Cert.ReferenceIdeal.Read.val_main_v14 (F := Ideal) x0 x2 x3 x4 x5 x6 x7) hb s
    rw [hp b s] at e
    exact e
  have R : Reads x0 x1 x2 x3 x4 x5 x6 x7 x8 x9 x10 x11 x12 x13 x14 x15 x16 x17 x18 x19 x20 x21 x22 x23 x24 x25 x26 x27 x28 x29 (netOf x0 x1 x2 x3 x4 x5 x6 x7 x8 x9 x10 x11 x12 x13 x14 x15 x16 x17 x18 x19 x20 x21 x22 x23 x24 x25 x26 x27 x28 x29) := ⟨E, hr⟩
  refine ⟨R, fun b => ?_⟩
  have hb := (both_of_and (hand b)).1
  clear hand h
  exact gap_of_bit (Cert.ReferenceIdeal.Read.val_main_v14 (F := Ideal) x0 x2 x3 x4 x5 x6 x7) (fun b => (netOf x0 x1 x2 x3 x4 x5 x6 x7 x8 x9 x10 x11 x12 x13 x14 x15 x16 x17 x18 x19 x20 x21 x22 x23 x24 x25 x26 x27 x28 x29 b).score)
    (Cert.ReferenceIdeal.Stage.r_v14 x0 x1 x2 x3 x4 x5 x6 x7 x8 x9 x10 x11 x12 x13 x14 x15 x16 x17 x18 x19 x20 x21 x22 x23 x24 x25 x26 x27 x28 x29 _ R) hb

end Cert.PreFacts
-- ==== Proof.Alg.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_separated_scores
public import proofs.«01_k».proof.Proof.KFinal
public import proofs.«01_k».proof.Proof.PreFacts

@[expose] public section

set_option maxRecDepth 16384
set_option maxHeartbeats 1000000

noncomputable section

/-! # The value claim: kernel and reference end with the same scores -/

namespace Cert.Alg

open Idealize.ShloMosaic Idealize.ShloMosaic.TcCoe Idealize.SL.Sem

variable (m : (ℓ : Loc KernelIdeal.nD KernelIdeal.τ KernelIdeal.sig) → Buf (Elt Ideal) ℓ) (c : Dev KernelIdeal.nD)

/-- The networks the launch memory of device `c` holds. -/
abbrev nets : Fin 16 → Model.Net :=
  PreFacts.netOf (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2))
    (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5))
    (m ((c : Thread KernelIdeal.nD KernelIdeal.τ).loc KernelIdeal.main_arg6)) (m ((c : Thread KernelIdeal.nD KernelIdeal.τ).loc KernelIdeal.main_arg7)) (m ((c : Thread KernelIdeal.nD KernelIdeal.τ).loc KernelIdeal.main_arg8))
    (m ((c : Thread KernelIdeal.nD KernelIdeal.τ).loc KernelIdeal.main_arg9)) (m ((c : Thread KernelIdeal.nD KernelIdeal.τ).loc KernelIdeal.main_arg10)) (m ((c : Thread KernelIdeal.nD KernelIdeal.τ).loc KernelIdeal.main_arg11))
    (m ((c : Thread KernelIdeal.nD KernelIdeal.τ).loc KernelIdeal.main_arg12)) (m ((c : Thread KernelIdeal.nD KernelIdeal.τ).loc KernelIdeal.main_arg13)) (m ((c : Thread KernelIdeal.nD KernelIdeal.τ).loc KernelIdeal.main_arg14))
    (m ((c : Thread KernelIdeal.nD KernelIdeal.τ).loc KernelIdeal.main_arg15)) (m ((c : Thread KernelIdeal.nD KernelIdeal.τ).loc KernelIdeal.main_arg16)) (m ((c : Thread KernelIdeal.nD KernelIdeal.τ).loc KernelIdeal.main_arg17))
    (m ((c : Thread KernelIdeal.nD KernelIdeal.τ).loc KernelIdeal.main_arg18)) (m ((c : Thread KernelIdeal.nD KernelIdeal.τ).loc KernelIdeal.main_arg19)) (m ((c : Thread KernelIdeal.nD KernelIdeal.τ).loc KernelIdeal.main_arg20))
    (m ((c : Thread KernelIdeal.nD KernelIdeal.τ).loc KernelIdeal.main_arg21)) (m ((c : Thread KernelIdeal.nD KernelIdeal.τ).loc KernelIdeal.main_arg22)) (m ((c : Thread KernelIdeal.nD KernelIdeal.τ).loc KernelIdeal.main_arg23))
    (m ((c : Thread KernelIdeal.nD KernelIdeal.τ).loc KernelIdeal.main_arg24)) (m ((c : Thread KernelIdeal.nD KernelIdeal.τ).loc KernelIdeal.main_arg25)) (m ((c : Thread KernelIdeal.nD KernelIdeal.τ).loc KernelIdeal.main_arg26))
    (m ((c : Thread KernelIdeal.nD KernelIdeal.τ).loc KernelIdeal.main_arg27)) (m ((c : Thread KernelIdeal.nD KernelIdeal.τ).loc KernelIdeal.main_arg28)) (m ((c : Thread KernelIdeal.nD KernelIdeal.τ).loc KernelIdeal.main_arg29))

/-- The precondition, read on the launch memory. -/
theorem launch_facts (h : Pre_KernelIdeal_separated_scores m) :
    Model.Reads (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2))
    (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5))
    (m ((c : Thread KernelIdeal.nD KernelIdeal.τ).loc KernelIdeal.main_arg6)) (m ((c : Thread KernelIdeal.nD KernelIdeal.τ).loc KernelIdeal.main_arg7)) (m ((c : Thread KernelIdeal.nD KernelIdeal.τ).loc KernelIdeal.main_arg8))
    (m ((c : Thread KernelIdeal.nD KernelIdeal.τ).loc KernelIdeal.main_arg9)) (m ((c : Thread KernelIdeal.nD KernelIdeal.τ).loc KernelIdeal.main_arg10)) (m ((c : Thread KernelIdeal.nD KernelIdeal.τ).loc KernelIdeal.main_arg11))
    (m ((c : Thread KernelIdeal.nD KernelIdeal.τ).loc KernelIdeal.main_arg12)) (m ((c : Thread KernelIdeal.nD KernelIdeal.τ).loc KernelIdeal.main_arg13)) (m ((c : Thread KernelIdeal.nD KernelIdeal.τ).loc KernelIdeal.main_arg14))
    (m ((c : Thread KernelIdeal.nD KernelIdeal.τ).loc KernelIdeal.main_arg15)) (m ((c : Thread KernelIdeal.nD KernelIdeal.τ).loc KernelIdeal.main_arg16)) (m ((c : Thread KernelIdeal.nD KernelIdeal.τ).loc KernelIdeal.main_arg17))
    (m ((c : Thread KernelIdeal.nD KernelIdeal.τ).loc KernelIdeal.main_arg18)) (m ((c : Thread KernelIdeal.nD KernelIdeal.τ).loc KernelIdeal.main_arg19)) (m ((c : Thread KernelIdeal.nD KernelIdeal.τ).loc KernelIdeal.main_arg20))
    (m ((c : Thread KernelIdeal.nD KernelIdeal.τ).loc KernelIdeal.main_arg21)) (m ((c : Thread KernelIdeal.nD KernelIdeal.τ).loc KernelIdeal.main_arg22)) (m ((c : Thread KernelIdeal.nD KernelIdeal.τ).loc KernelIdeal.main_arg23))
    (m ((c : Thread KernelIdeal.nD KernelIdeal.τ).loc KernelIdeal.main_arg24)) (m ((c : Thread KernelIdeal.nD KernelIdeal.τ).loc KernelIdeal.main_arg25)) (m ((c : Thread KernelIdeal.nD KernelIdeal.τ).loc KernelIdeal.main_arg26))
    (m ((c : Thread KernelIdeal.nD KernelIdeal.τ).loc KernelIdeal.main_arg27)) (m ((c : Thread KernelIdeal.nD KernelIdeal.τ).loc KernelIdeal.main_arg28)) (m ((c : Thread KernelIdeal.nD KernelIdeal.τ).loc KernelIdeal.main_arg29)) (nets m c)
      ∧ ∀ b, TopK.Gap (nets m c b).score := PreFacts.facts (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2))
    (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5))
    (m ((c : Thread KernelIdeal.nD KernelIdeal.τ).loc KernelIdeal.main_arg6)) (m ((c : Thread KernelIdeal.nD KernelIdeal.τ).loc KernelIdeal.main_arg7)) (m ((c : Thread KernelIdeal.nD KernelIdeal.τ).loc KernelIdeal.main_arg8))
    (m ((c : Thread KernelIdeal.nD KernelIdeal.τ).loc KernelIdeal.main_arg9)) (m ((c : Thread KernelIdeal.nD KernelIdeal.τ).loc KernelIdeal.main_arg10)) (m ((c : Thread KernelIdeal.nD KernelIdeal.τ).loc KernelIdeal.main_arg11))
    (m ((c : Thread KernelIdeal.nD KernelIdeal.τ).loc KernelIdeal.main_arg12)) (m ((c : Thread KernelIdeal.nD KernelIdeal.τ).loc KernelIdeal.main_arg13)) (m ((c : Thread KernelIdeal.nD KernelIdeal.τ).loc KernelIdeal.main_arg14))
    (m ((c : Thread KernelIdeal.nD KernelIdeal.τ).loc KernelIdeal.main_arg15)) (m ((c : Thread KernelIdeal.nD KernelIdeal.τ).loc KernelIdeal.main_arg16)) (m ((c : Thread KernelIdeal.nD KernelIdeal.τ).loc KernelIdeal.main_arg17))
    (m ((c : Thread KernelIdeal.nD KernelIdeal.τ).loc KernelIdeal.main_arg18)) (m ((c : Thread KernelIdeal.nD KernelIdeal.τ).loc KernelIdeal.main_arg19)) (m ((c : Thread KernelIdeal.nD KernelIdeal.τ).loc KernelIdeal.main_arg20))
    (m ((c : Thread KernelIdeal.nD KernelIdeal.τ).loc KernelIdeal.main_arg21)) (m ((c : Thread KernelIdeal.nD KernelIdeal.τ).loc KernelIdeal.main_arg22)) (m ((c : Thread KernelIdeal.nD KernelIdeal.τ).loc KernelIdeal.main_arg23))
    (m ((c : Thread KernelIdeal.nD KernelIdeal.τ).loc KernelIdeal.main_arg24)) (m ((c : Thread KernelIdeal.nD KernelIdeal.τ).loc KernelIdeal.main_arg25)) (m ((c : Thread KernelIdeal.nD KernelIdeal.τ).loc KernelIdeal.main_arg26))
    (m ((c : Thread KernelIdeal.nD KernelIdeal.τ).loc KernelIdeal.main_arg27)) (m ((c : Thread KernelIdeal.nD KernelIdeal.τ).loc KernelIdeal.main_arg28)) (m ((c : Thread KernelIdeal.nD KernelIdeal.τ).loc KernelIdeal.main_arg29)) (h c)

/-- What both programs compute on device `c`: batch `b`'s score, the same at every position `s`. -/
theorem kernel_value (h : Pre_KernelIdeal_separated_scores m) (ρ : Dev KernelIdeal.nD → PrngReg) (b : Fin 16) (s : Fin 1024) :
    KernelIdeal.Run.W5 m ρ c (Proc.devRef .tc KernelIdeal.main_v19) (ix2 b s)
      = ((nets m c b).out (TopK.topSet (nets m c b).score) : EReal) :=
  KernelIdeal.Arr.result m ρ c (nets m c) (launch_facts m c h).1 (launch_facts m c h).2 b s

/-- The reference's result over the same arguments. -/
theorem reference_value (h : Pre_KernelIdeal_separated_scores m) (b : Fin 16) (s : Fin 1024) :
    ReferenceIdeal.Read.val_main_v116 (F := Ideal) (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2))
    (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5))
    (m ((c : Thread KernelIdeal.nD KernelIdeal.τ).loc KernelIdeal.main_arg6)) (m ((c : Thread KernelIdeal.nD KernelIdeal.τ).loc KernelIdeal.main_arg7)) (m ((c : Thread KernelIdeal.nD KernelIdeal.τ).loc KernelIdeal.main_arg8))
    (m ((c : Thread KernelIdeal.nD KernelIdeal.τ).loc KernelIdeal.main_arg9)) (m ((c : Thread KernelIdeal.nD KernelIdeal.τ).loc KernelIdeal.main_arg10)) (m ((c : Thread KernelIdeal.nD KernelIdeal.τ).loc KernelIdeal.main_arg11))
    (m ((c : Thread KernelIdeal.nD KernelIdeal.τ).loc KernelIdeal.main_arg12)) (m ((c : Thread KernelIdeal.nD KernelIdeal.τ).loc KernelIdeal.main_arg13)) (m ((c : Thread KernelIdeal.nD KernelIdeal.τ).loc KernelIdeal.main_arg14))
    (m ((c : Thread KernelIdeal.nD KernelIdeal.τ).loc KernelIdeal.main_arg15)) (m ((c : Thread KernelIdeal.nD KernelIdeal.τ).loc KernelIdeal.main_arg16)) (m ((c : Thread KernelIdeal.nD KernelIdeal.τ).loc KernelIdeal.main_arg17))
    (m ((c : Thread KernelIdeal.nD KernelIdeal.τ).loc KernelIdeal.main_arg18)) (m ((c : Thread KernelIdeal.nD KernelIdeal.τ).loc KernelIdeal.main_arg19)) (m ((c : Thread KernelIdeal.nD KernelIdeal.τ).loc KernelIdeal.main_arg20))
    (m ((c : Thread KernelIdeal.nD KernelIdeal.τ).loc KernelIdeal.main_arg21)) (m ((c : Thread KernelIdeal.nD KernelIdeal.τ).loc KernelIdeal.main_arg22)) (m ((c : Thread KernelIdeal.nD KernelIdeal.τ).loc KernelIdeal.main_arg23))
    (m ((c : Thread KernelIdeal.nD KernelIdeal.τ).loc KernelIdeal.main_arg24)) (m ((c : Thread KernelIdeal.nD KernelIdeal.τ).loc KernelIdeal.main_arg25)) (m ((c : Thread KernelIdeal.nD KernelIdeal.τ).loc KernelIdeal.main_arg26))
    (m ((c : Thread KernelIdeal.nD KernelIdeal.τ).loc KernelIdeal.main_arg27)) (m ((c : Thread KernelIdeal.nD KernelIdeal.τ).loc KernelIdeal.main_arg28)) (m ((c : Thread KernelIdeal.nD KernelIdeal.τ).loc KernelIdeal.main_arg29)) (ix2 b s)
      = ((nets m c b).out (TopK.topSet (nets m c b).score) : EReal) :=
  ReferenceIdeal.Stage.r_v116 (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2))
    (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5))
    (m ((c : Thread KernelIdeal.nD KernelIdeal.τ).loc KernelIdeal.main_arg6)) (m ((c : Thread KernelIdeal.nD KernelIdeal.τ).loc KernelIdeal.main_arg7)) (m ((c : Thread KernelIdeal.nD KernelIdeal.τ).loc KernelIdeal.main_arg8))
    (m ((c : Thread KernelIdeal.nD KernelIdeal.τ).loc KernelIdeal.main_arg9)) (m ((c : Thread KernelIdeal.nD KernelIdeal.τ).loc KernelIdeal.main_arg10)) (m ((c : Thread KernelIdeal.nD KernelIdeal.τ).loc KernelIdeal.main_arg11))
    (m ((c : Thread KernelIdeal.nD KernelIdeal.τ).loc KernelIdeal.main_arg12)) (m ((c : Thread KernelIdeal.nD KernelIdeal.τ).loc KernelIdeal.main_arg13)) (m ((c : Thread KernelIdeal.nD KernelIdeal.τ).loc KernelIdeal.main_arg14))
    (m ((c : Thread KernelIdeal.nD KernelIdeal.τ).loc KernelIdeal.main_arg15)) (m ((c : Thread KernelIdeal.nD KernelIdeal.τ).loc KernelIdeal.main_arg16)) (m ((c : Thread KernelIdeal.nD KernelIdeal.τ).loc KernelIdeal.main_arg17))
    (m ((c : Thread KernelIdeal.nD KernelIdeal.τ).loc KernelIdeal.main_arg18)) (m ((c : Thread KernelIdeal.nD KernelIdeal.τ).loc KernelIdeal.main_arg19)) (m ((c : Thread KernelIdeal.nD KernelIdeal.τ).loc KernelIdeal.main_arg20))
    (m ((c : Thread KernelIdeal.nD KernelIdeal.τ).loc KernelIdeal.main_arg21)) (m ((c : Thread KernelIdeal.nD KernelIdeal.τ).loc KernelIdeal.main_arg22)) (m ((c : Thread KernelIdeal.nD KernelIdeal.τ).loc KernelIdeal.main_arg23))
    (m ((c : Thread KernelIdeal.nD KernelIdeal.τ).loc KernelIdeal.main_arg24)) (m ((c : Thread KernelIdeal.nD KernelIdeal.τ).loc KernelIdeal.main_arg25)) (m ((c : Thread KernelIdeal.nD KernelIdeal.τ).loc KernelIdeal.main_arg26))
    (m ((c : Thread KernelIdeal.nD KernelIdeal.τ).loc KernelIdeal.main_arg27)) (m ((c : Thread KernelIdeal.nD KernelIdeal.τ).loc KernelIdeal.main_arg28)) (m ((c : Thread KernelIdeal.nD KernelIdeal.τ).loc KernelIdeal.main_arg29)) (nets m c) (launch_facts m c h).1 b s

/-- On launch memories that agree on the thirty arguments and satisfy the precondition, both programs end, leave their
    arguments as launched, and hold the same result. -/
theorem algebraic : Cert.algebraic_KernelIdeal_ReferenceIdeal_pre_separated_scores := by
  intro m g m' g' hp he
  refine ⟨fun c => KernelIdeal.Run.W5 m g c (Proc.devRef .tc KernelIdeal.main_v19), ?_, ?_⟩
  · refine (θ_run KernelIdeal.defs _ _).mono (fun r h c => ?_) (KernelIdeal.Run.run_final m g)
    exact ⟨h.1 c _ (KernelIdeal.Run.mem_uc KernelIdeal.main_v19 (by decide)),
      KernelIdeal.Run.arg_end m g c (h.1 c) KernelIdeal.main_arg0 (by decide) (by decide),
      KernelIdeal.Run.arg_end m g c (h.1 c) KernelIdeal.main_arg1 (by decide) (by decide),
      KernelIdeal.Run.arg_end m g c (h.1 c) KernelIdeal.main_arg2 (by decide) (by decide),
      KernelIdeal.Run.arg_end m g c (h.1 c) KernelIdeal.main_arg3 (by decide) (by decide),
      KernelIdeal.Run.arg_end m g c (h.1 c) KernelIdeal.main_arg4 (by decide) (by decide),
      KernelIdeal.Run.arg_end m g c (h.1 c) KernelIdeal.main_arg5 (by decide) (by decide),
      KernelIdeal.Run.arg_end m g c (h.1 c) KernelIdeal.main_arg6 (by decide) (by decide),
      KernelIdeal.Run.arg_end m g c (h.1 c) KernelIdeal.main_arg7 (by decide) (by decide),
      KernelIdeal.Run.arg_end m g c (h.1 c) KernelIdeal.main_arg8 (by decide) (by decide),
      KernelIdeal.Run.arg_end m g c (h.1 c) KernelIdeal.main_arg9 (by decide) (by decide),
      KernelIdeal.Run.arg_end m g c (h.1 c) KernelIdeal.main_arg10 (by decide) (by decide),
      KernelIdeal.Run.arg_end m g c (h.1 c) KernelIdeal.main_arg11 (by decide) (by decide),
      KernelIdeal.Run.arg_end m g c (h.1 c) KernelIdeal.main_arg12 (by decide) (by decide),
      KernelIdeal.Run.arg_end m g c (h.1 c) KernelIdeal.main_arg13 (by decide) (by decide),
      KernelIdeal.Run.arg_end m g c (h.1 c) KernelIdeal.main_arg14 (by decide) (by decide),
      KernelIdeal.Run.arg_end m g c (h.1 c) KernelIdeal.main_arg15 (by decide) (by decide),
      KernelIdeal.Run.arg_end m g c (h.1 c) KernelIdeal.main_arg16 (by decide) (by decide),
      KernelIdeal.Run.arg_end m g c (h.1 c) KernelIdeal.main_arg17 (by decide) (by decide),
      KernelIdeal.Run.arg_end m g c (h.1 c) KernelIdeal.main_arg18 (by decide) (by decide),
      KernelIdeal.Run.arg_end m g c (h.1 c) KernelIdeal.main_arg19 (by decide) (by decide),
      KernelIdeal.Run.arg_end m g c (h.1 c) KernelIdeal.main_arg20 (by decide) (by decide),
      KernelIdeal.Run.arg_end m g c (h.1 c) KernelIdeal.main_arg21 (by decide) (by decide),
      KernelIdeal.Run.arg_end m g c (h.1 c) KernelIdeal.main_arg22 (by decide) (by decide),
      KernelIdeal.Run.arg_end m g c (h.1 c) KernelIdeal.main_arg23 (by decide) (by decide),
      KernelIdeal.Run.arg_end m g c (h.1 c) KernelIdeal.main_arg24 (by decide) (by decide),
      KernelIdeal.Run.arg_end m g c (h.1 c) KernelIdeal.main_arg25 (by decide) (by decide),
      KernelIdeal.Run.arg_end m g c (h.1 c) KernelIdeal.main_arg26 (by decide) (by decide),
      KernelIdeal.Run.arg_end m g c (h.1 c) KernelIdeal.main_arg27 (by decide) (by decide),
      KernelIdeal.Run.arg_end m g c (h.1 c) KernelIdeal.main_arg28 (by decide) (by decide),
      KernelIdeal.Run.arg_end m g c (h.1 c) KernelIdeal.main_arg29 (by decide) (by decide)⟩
  · refine (θ_run ReferenceIdeal.defs _ _).mono (fun r h c => ⟨(h c).1.trans ?_, (h c).2⟩) (ReferenceIdeal.Value.run (F := Ideal) m' g')
    refine (ReferenceIdeal.Read.val_main_v116_eq (F := Ideal) (fun b => m' (((c : Thread ReferenceIdeal.nD ReferenceIdeal.τ)).1, b))).trans ?_
    obtain ⟨e0, e1, e2, e3, e4, e5, e6, e7, e8, e9, e10, e11, e12, e13, e14, e15, e16, e17, e18, e19, e20, e21, e22, e23, e24, e25, e26, e27, e28, e29⟩ := he c
    show ReferenceIdeal.Read.val_main_v116 (F := Ideal) (m' ((c : Thread ReferenceIdeal.nD ReferenceIdeal.τ).loc ReferenceIdeal.main_arg0)) (m' ((c : Thread ReferenceIdeal.nD ReferenceIdeal.τ).loc ReferenceIdeal.main_arg1)) (m' ((c : Thread ReferenceIdeal.nD ReferenceIdeal.τ).loc ReferenceIdeal.main_arg2))
      (m' ((c : Thread ReferenceIdeal.nD ReferenceIdeal.τ).loc ReferenceIdeal.main_arg3)) (m' ((c : Thread ReferenceIdeal.nD ReferenceIdeal.τ).loc ReferenceIdeal.main_arg4)) (m' ((c : Thread ReferenceIdeal.nD ReferenceIdeal.τ).loc ReferenceIdeal.main_arg5))
      (m' ((c : Thread ReferenceIdeal.nD ReferenceIdeal.τ).loc ReferenceIdeal.main_arg6)) (m' ((c : Thread ReferenceIdeal.nD ReferenceIdeal.τ).loc ReferenceIdeal.main_arg7)) (m' ((c : Thread ReferenceIdeal.nD ReferenceIdeal.τ).loc ReferenceIdeal.main_arg8))
      (m' ((c : Thread ReferenceIdeal.nD ReferenceIdeal.τ).loc ReferenceIdeal.main_arg9)) (m' ((c : Thread ReferenceIdeal.nD ReferenceIdeal.τ).loc ReferenceIdeal.main_arg10)) (m' ((c : Thread ReferenceIdeal.nD ReferenceIdeal.τ).loc ReferenceIdeal.main_arg11))
      (m' ((c : Thread ReferenceIdeal.nD ReferenceIdeal.τ).loc ReferenceIdeal.main_arg12)) (m' ((c : Thread ReferenceIdeal.nD ReferenceIdeal.τ).loc ReferenceIdeal.main_arg13)) (m' ((c : Thread ReferenceIdeal.nD ReferenceIdeal.τ).loc ReferenceIdeal.main_arg14))
      (m' ((c : Thread ReferenceIdeal.nD ReferenceIdeal.τ).loc ReferenceIdeal.main_arg15)) (m' ((c : Thread ReferenceIdeal.nD ReferenceIdeal.τ).loc ReferenceIdeal.main_arg16)) (m' ((c : Thread ReferenceIdeal.nD ReferenceIdeal.τ).loc ReferenceIdeal.main_arg17))
      (m' ((c : Thread ReferenceIdeal.nD ReferenceIdeal.τ).loc ReferenceIdeal.main_arg18)) (m' ((c : Thread ReferenceIdeal.nD ReferenceIdeal.τ).loc ReferenceIdeal.main_arg19)) (m' ((c : Thread ReferenceIdeal.nD ReferenceIdeal.τ).loc ReferenceIdeal.main_arg20))
      (m' ((c : Thread ReferenceIdeal.nD ReferenceIdeal.τ).loc ReferenceIdeal.main_arg21)) (m' ((c : Thread ReferenceIdeal.nD ReferenceIdeal.τ).loc ReferenceIdeal.main_arg22)) (m' ((c : Thread ReferenceIdeal.nD ReferenceIdeal.τ).loc ReferenceIdeal.main_arg23))
      (m' ((c : Thread ReferenceIdeal.nD ReferenceIdeal.τ).loc ReferenceIdeal.main_arg24)) (m' ((c : Thread ReferenceIdeal.nD ReferenceIdeal.τ).loc ReferenceIdeal.main_arg25)) (m' ((c : Thread ReferenceIdeal.nD ReferenceIdeal.τ).loc ReferenceIdeal.main_arg26))
      (m' ((c : Thread ReferenceIdeal.nD ReferenceIdeal.τ).loc ReferenceIdeal.main_arg27)) (m' ((c : Thread ReferenceIdeal.nD ReferenceIdeal.τ).loc ReferenceIdeal.main_arg28)) (m' ((c : Thread ReferenceIdeal.nD ReferenceIdeal.τ).loc ReferenceIdeal.main_arg29)) = _
    rw [e0, e1, e2, e3, e4, e5, e6, e7, e8, e9, e10, e11, e12, e13, e14, e15, e16, e17, e18, e19, e20, e21, e22, e23, e24, e25, e26, e27, e28, e29]
    funext x
    have hx := (reference_value m c hp (x 0) (x 1)).trans (kernel_value m c hp g (x 0) (x 1)).symm
    rw [show (ix2 (x 0) (x 1) : (⟨2, ![16, 1024]⟩ : Shape).Idx) = x from ix2_eta x] at hx
    exact hx

end Cert.Alg
-- ==== Proof.lean ====
/- The claims of the snippet-scoring kernel, assembled from the runs: `KRun` (the printed kernel at machine words), `IRun`
   (the same program over the extended reals), the generated run of the reference, and `Alg` (the equality of results). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_separated_scores
public import proofs.«01_k».proof.Proof.Gen.ReferenceIdeal.Read
public import proofs.«01_k».proof.Proof.KRun
public import proofs.«01_k».proof.Proof.IRun
public import proofs.«01_k».proof.Proof.Alg
public import Idealize.ShloMosaic.Adequacy
public import Idealize.ShloMosaic.Init

@[expose] public section

noncomputable section

namespace Cert.Proof

open Idealize.ShloMosaic Idealize.SL.Sem Cert.Kernel

/-- The reference's frame: its generated run read at the arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The seven statements: the frame of the printed kernel, the frames of the idealized kernel and of the reference (each also
    under the precondition), the kernel's idealization, and the equality of the two results. -/
theorem claim : Cert.Claim := ⟨Cert.Kernel.Gen.facts, Cert.KernelIdeal.Gen.facts, Cert.ReferenceIdeal.Gen.facts,
  Cert.Pre_separated_scores.Gen.facts, fun m ρ _ => Cert.Kernel.Run.frame m ρ, fun m ρ _ => Cert.KernelIdeal.Run.frame m ρ,
  fun m ρ _ => Cert.KernelIdeal.Run.frame m ρ, frame_reference, fun m ρ _ => frame_reference m ρ trivial, trivial,
  Cert.Alg.algebraic⟩

end Cert.Proof

end
